-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S4x2x128x256 : Shape := ⟨4, ![4, 2, 128, 256]⟩
abbrev S4x2x256x256 : Shape := ⟨4, ![4, 2, 256, 256]⟩
abbrev S4x8 : Shape := ⟨2, ![4, 8]⟩
abbrev S_ : Shape := ⟨0, ![]⟩
abbrev S256x256 : Shape := ⟨2, ![256, 256]⟩
abbrev S256x512 : Shape := ⟨2, ![256, 512]⟩
abbrev S1x1 : Shape := ⟨2, ![1, 1]⟩
abbrev S1x1x128x256 : Shape := ⟨4, ![1, 1, 128, 256]⟩
abbrev S128x256 : Shape := ⟨2, ![128, 256]⟩
abbrev S1x1x256x256 : Shape := ⟨4, ![1, 1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x1024, .f32⟩
  | .local _ .vmem, ⟨0, _⟩ => ⟨S1024x256, .f32⟩
  | .local _ .vmem, ⟨1, _⟩ => ⟨S256x1024, .f32⟩
  | .local _ .vmem, ⟨2, _⟩ => ⟨S1024x1024, .f32⟩
  | .local _ .vmem, ⟨3, _⟩ => ⟨S4x2x128x256, .f32⟩
  | .local _ .vmem, ⟨4, _⟩ => ⟨S4x2x256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_70 : BitVec 32 := 256#32
  let v75 : BitVec 32 := Scalar.muli v5 c256_i32_70
  let v76 : Index := Scalar.indexCast v75
  let c0 : Index := 0#32
  ![v76.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_70 : BitVec 32 := 256#32
  let v75 : BitVec 32 := Scalar.muli v5 c256_i32_70
  let v82 : Index := Scalar.indexCast v75
  let c0_73 : Index := 0#32
  ![v82.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32 : BitVec 32 := 256#32
  let v15 : BitVec 32 := Scalar.muli v5 c256_i32
  let c0_i32_84 : BitVec 32 := 0#32
  ![v15.toNat, 0]
def k0_dev3 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_80 : BitVec 32 := 1#32
  let v84 : BitVec 32 := Scalar.muli v5 c1_i32_80
  let v85 : BitVec 32 := Scalar.addi c0_i32_81 v84
  v85.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_12 : BitVec 32 := 256#32
  let v16 : BitVec 32 := Scalar.muli v5 c256_i32_12
  let c128_i32 : BitVec 32 := 128#32
  let v17 : BitVec 32 := Scalar.addi v16 c128_i32
  let c0_i32_95 : BitVec 32 := 0#32
  ![v17.toNat, 0]
def k0_dev4 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_91 : BitVec 32 := 1#32
  let v93 : BitVec 32 := Scalar.muli v7 c1_i32_91
  let v94 : BitVec 32 := Scalar.addi c0_i32_92 v93
  v94.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_13 : BitVec 32 := 256#32
  let v18 : BitVec 32 := Scalar.muli v5 c256_i32_13
  let c256_i32_106 : BitVec 32 := 256#32
  ![v18.toNat, 256]
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_102 : BitVec 32 := 1#32
  let v102 : BitVec 32 := Scalar.muli v5 c1_i32_102
  let v103 : BitVec 32 := Scalar.addi c0_i32_103 v102
  v103.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_14 : BitVec 32 := 256#32
  let v19 : BitVec 32 := Scalar.muli v5 c256_i32_14
  let c128_i32_15 : BitVec 32 := 128#32
  let v20 : BitVec 32 := Scalar.addi v19 c128_i32_15
  let c256_i32_117 : BitVec 32 := 256#32
  ![v20.toNat, 256]
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v111 : BitVec 32 := Scalar.muli v7 c1_i32_113
  let v112 : BitVec 32 := Scalar.addi c0_i32_114 v111
  v112.toNat
def k0_off7 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_118 : BitVec 32 := 256#32
  let v120 : BitVec 32 := Scalar.muli v7 c256_i32_118
  let v121 : Index := Scalar.indexCast v120
  let c0_119 : Index := 0#32
  ![v121.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_118 : BitVec 32 := 256#32
  let v120 : BitVec 32 := Scalar.muli v7 c256_i32_118
  let v127 : Index := Scalar.indexCast v120
  let c512_122 : Index := 512#32
  ![v127.toNat, 512]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_17 : BitVec 32 := 256#32
  let v22 : BitVec 32 := Scalar.muli v7 c256_i32_17
  let c128_i32_18 : BitVec 32 := 128#32
  let v23 : BitVec 32 := Scalar.addi v22 c128_i32_18
  let c512_i32 : BitVec 32 := 512#32
  ![v23.toNat, 512]
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_129 : BitVec 32 := 1#32
  let v129 : BitVec 32 := Scalar.muli v5 c1_i32_129
  let v130 : BitVec 32 := Scalar.addi c0_i32_130 v129
  v130.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_16 : BitVec 32 := 256#32
  let v21 : BitVec 32 := Scalar.muli v7 c256_i32_16
  let c512_i32_143 : BitVec 32 := 512#32
  ![v21.toNat, 512]
def k0_dev8 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_139 : BitVec 32 := 1#32
  let v138 : BitVec 32 := Scalar.muli v7 c1_i32_139
  let v139 : BitVec 32 := Scalar.addi c0_i32_140 v138
  v139.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_20 : BitVec 32 := 256#32
  let v25 : BitVec 32 := Scalar.muli v7 c256_i32_20
  let c128_i32_21 : BitVec 32 := 128#32
  let v26 : BitVec 32 := Scalar.addi v25 c128_i32_21
  let c768_i32 : BitVec 32 := 768#32
  ![v26.toNat, 768]
def k0_dev9 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_149 : BitVec 32 := 1#32
  let v147 : BitVec 32 := Scalar.muli v5 c1_i32_149
  let v148 : BitVec 32 := Scalar.addi c0_i32_150 v147
  v148.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_19 : BitVec 32 := 256#32
  let v24 : BitVec 32 := Scalar.muli v7 c256_i32_19
  let c768_i32_163 : BitVec 32 := 768#32
  ![v24.toNat, 768]
def k0_dev10 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_159 : BitVec 32 := 1#32
  let v156 : BitVec 32 := Scalar.muli v7 c1_i32_159
  let v157 : BitVec 32 := Scalar.addi c0_i32_160 v156
  v157.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_164 : BitVec 32 := 256#32
  let v165 : BitVec 32 := Scalar.muli v2 c256_i32_164
  let v166 : Index := Scalar.indexCast v165
  let c0_165 : Index := 0#32
  ![v166.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_164 : BitVec 32 := 256#32
  let v165 : BitVec 32 := Scalar.muli v2 c256_i32_164
  let v172 : Index := Scalar.indexCast v165
  let c0_169 : Index := 0#32
  ![v172.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c256_i32_170 : BitVec 32 := 256#32
  let v174 : BitVec 32 := Scalar.muli v9 c256_i32_170
  let v181 : Index := Scalar.indexCast v174
  let c0_175 : Index := 0#32
  ![v181.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_176 : BitVec 32 := 256#32
  let v183 : BitVec 32 := Scalar.muli v7 c256_i32_176
  let v190 : Index := Scalar.indexCast v183
  let c0_181 : Index := 0#32
  ![v190.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_182 : BitVec 32 := 256#32
  let v192 : BitVec 32 := Scalar.muli v5 c256_i32_182
  let v199 : Index := Scalar.indexCast v192
  let c512_187 : Index := 512#32
  ![v199.toNat, 512]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_188 : BitVec 32 := 256#32
  let v201 : BitVec 32 := Scalar.muli v2 c256_i32_188
  let v211 : Index := Scalar.indexCast v201
  let c0_202 : Index := 0#32
  ![v211.toNat, 0]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_22 : BitVec 32 := 256#32
  let v27 : BitVec 32 := Scalar.muli v2 c256_i32_22
  let c0_i32_217 : BitVec 32 := 0#32
  ![v27.toNat, 0]
def k0_dev11 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_213 : BitVec 32 := 1#32
  let v219 : BitVec 32 := Scalar.muli v5 c1_i32_213
  let v220 : BitVec 32 := Scalar.addi c0_i32_214 v219
  v220.toNat
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c256_i32_189 : BitVec 32 := 256#32
  let v202 : BitVec 32 := Scalar.muli v9 c256_i32_189
  let c128_i32_190 : BitVec 32 := 128#32
  let v203 : BitVec 32 := Scalar.addi v202 c128_i32_190
  let v235 : Index := Scalar.indexCast v203
  let c0_229 : Index := 0#32
  ![v235.toNat, 0]
def k0_off21 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c256_i32_23 : BitVec 32 := 256#32
  let v28 : BitVec 32 := Scalar.muli v9 c256_i32_23
  let c0_i32_245 : BitVec 32 := 0#32
  ![v28.toNat, 0]
def k0_dev12 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_241 : BitVec 32 := 1#32
  let v243 : BitVec 32 := Scalar.muli v7 c1_i32_241
  let v244 : BitVec 32 := Scalar.addi c0_i32_242 v243
  v244.toNat
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_188 : BitVec 32 := 256#32
  let v201 : BitVec 32 := Scalar.muli v2 c256_i32_188
  let v259 : Index := Scalar.indexCast v201
  let c512_257 : Index := 512#32
  ![v259.toNat, 512]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_26 : BitVec 32 := 256#32
  let v31 : BitVec 32 := Scalar.muli v2 c256_i32_26
  let c512_i32_272 : BitVec 32 := 512#32
  ![v31.toNat, 512]
def k0_dev13 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_268 : BitVec 32 := 1#32
  let v267 : BitVec 32 := Scalar.muli v7 c1_i32_268
  let v268 : BitVec 32 := Scalar.addi c0_i32_269 v267
  v268.toNat
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c256_i32_189 : BitVec 32 := 256#32
  let v202 : BitVec 32 := Scalar.muli v9 c256_i32_189
  let c128_i32_190 : BitVec 32 := 128#32
  let v203 : BitVec 32 := Scalar.addi v202 c128_i32_190
  let v283 : Index := Scalar.indexCast v203
  let c512_284 : Index := 512#32
  ![v283.toNat, 512]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c256_i32_27 : BitVec 32 := 256#32
  let v32 : BitVec 32 := Scalar.muli v9 c256_i32_27
  let c512_i32_300 : BitVec 32 := 512#32
  ![v32.toNat, 512]
def k0_dev14 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_296 : BitVec 32 := 1#32
  let v291 : BitVec 32 := Scalar.muli v5 c1_i32_296
  let v292 : BitVec 32 := Scalar.addi c0_i32_297 v291
  v292.toNat
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_188 : BitVec 32 := 256#32
  let v201 : BitVec 32 := Scalar.muli v2 c256_i32_188
  let v307 : Index := Scalar.indexCast v201
  let c256 : Index := 256#32
  ![v307.toNat, 256]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_24 : BitVec 32 := 256#32
  let v29 : BitVec 32 := Scalar.muli v2 c256_i32_24
  let c256_i32_327 : BitVec 32 := 256#32
  ![v29.toNat, 256]
def k0_dev15 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_323 : BitVec 32 := 1#32
  let v315 : BitVec 32 := Scalar.muli v5 c1_i32_323
  let v316 : BitVec 32 := Scalar.addi c0_i32_324 v315
  v316.toNat
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c256_i32_189 : BitVec 32 := 256#32
  let v202 : BitVec 32 := Scalar.muli v9 c256_i32_189
  let c128_i32_190 : BitVec 32 := 128#32
  let v203 : BitVec 32 := Scalar.addi v202 c128_i32_190
  let v331 : Index := Scalar.indexCast v203
  let c256_339 : Index := 256#32
  ![v331.toNat, 256]
def k0_off29 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c256_i32_25 : BitVec 32 := 256#32
  let v30 : BitVec 32 := Scalar.muli v9 c256_i32_25
  let c256_i32_355 : BitVec 32 := 256#32
  ![v30.toNat, 256]
def k0_dev16 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_351 : BitVec 32 := 1#32
  let v339 : BitVec 32 := Scalar.muli v7 c1_i32_351
  let v340 : BitVec 32 := Scalar.addi c0_i32_352 v339
  v340.toNat
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_188 : BitVec 32 := 256#32
  let v201 : BitVec 32 := Scalar.muli v2 c256_i32_188
  let v355 : Index := Scalar.indexCast v201
  let c768 : Index := 768#32
  ![v355.toNat, 768]
def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_28 : BitVec 32 := 256#32
  let v33 : BitVec 32 := Scalar.muli v2 c256_i32_28
  let c768_i32_381 : BitVec 32 := 768#32
  ![v33.toNat, 768]
def k0_dev17 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_377 : BitVec 32 := 1#32
  let v363 : BitVec 32 := Scalar.muli v7 c1_i32_377
  let v364 : BitVec 32 := Scalar.addi c0_i32_378 v363
  v364.toNat
def k0_off32 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c256_i32_189 : BitVec 32 := 256#32
  let v202 : BitVec 32 := Scalar.muli v9 c256_i32_189
  let c128_i32_190 : BitVec 32 := 128#32
  let v203 : BitVec 32 := Scalar.addi v202 c128_i32_190
  let v379 : Index := Scalar.indexCast v203
  let c768_393 : Index := 768#32
  ![v379.toNat, 768]
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c256_i32_29 : BitVec 32 := 256#32
  let v34 : BitVec 32 := Scalar.muli v9 c256_i32_29
  let c768_i32_409 : BitVec 32 := 768#32
  ![v34.toNat, 768]
def k0_dev18 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_405 : BitVec 32 := 1#32
  let v387 : BitVec 32 := Scalar.muli v5 c1_i32_405
  let v388 : BitVec 32 := Scalar.addi c0_i32_406 v387
  v388.toNat
def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_410 : BitVec 32 := 256#32
  let v396 : BitVec 32 := Scalar.muli v7 c256_i32_410
  let v411 : Index := Scalar.indexCast v396
  let c0_433 : Index := 0#32
  ![v411.toNat, 0]
def k0_dev19 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_451 : BitVec 32 := 1#32
  let v435 : BitVec 32 := Scalar.muli v7 c1_i32_451
  let v436 : BitVec 32 := Scalar.addi c0_i32_452 v435
  v436.toNat
def k0_dev20 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_458 : BitVec 32 := 1#32
  let v443 : BitVec 32 := Scalar.muli v5 c1_i32_458
  let v444 : BitVec 32 := Scalar.addi c0_i32_459 v443
  v444.toNat
def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_462 : BitVec 32 := 256#32
  let v451 : BitVec 32 := Scalar.muli v5 c256_i32_462
  let v466 : Index := Scalar.indexCast v451
  let c512_485 : Index := 512#32
  ![v466.toNat, 512]
def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_50 : BitVec 32 := 256#32
  let v55 : BitVec 32 := Scalar.muli v5 c256_i32_50
  let c512_i32_505 : BitVec 32 := 512#32
  ![v55.toNat, 512]
def k0_dev21 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_503 : BitVec 32 := 1#32
  let v490 : BitVec 32 := Scalar.muli v7 c1_i32_503
  let v491 : BitVec 32 := Scalar.addi c0_i32_504 v490
  v491.toNat
def k0_dev22 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_511 : BitVec 32 := 1#32
  let v498 : BitVec 32 := Scalar.muli v5 c1_i32_511
  let v499 : BitVec 32 := Scalar.addi c0_i32_512 v498
  v499.toNat
def k0_off37 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_515 : BitVec 32 := 256#32
  let v506 : BitVec 32 := Scalar.muli v7 c256_i32_515
  let v521 : Index := Scalar.indexCast v506
  let c256_538 : Index := 256#32
  ![v521.toNat, 256]
def k0_dev23 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_556 : BitVec 32 := 1#32
  let v545 : BitVec 32 := Scalar.muli v7 c1_i32_556
  let v546 : BitVec 32 := Scalar.addi c0_i32_557 v545
  v546.toNat
def k0_dev24 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_564 : BitVec 32 := 1#32
  let v553 : BitVec 32 := Scalar.muli v5 c1_i32_564
  let v554 : BitVec 32 := Scalar.addi c0_i32_565 v553
  v554.toNat
def k0_off38 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_568 : BitVec 32 := 256#32
  let v561 : BitVec 32 := Scalar.muli v5 c256_i32_568
  let v576 : Index := Scalar.indexCast v561
  let c768_591 : Index := 768#32
  ![v576.toNat, 768]
def k0_off39 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_60 : BitVec 32 := 256#32
  let v65 : BitVec 32 := Scalar.muli v5 c256_i32_60
  let c768_i32_611 : BitVec 32 := 768#32
  ![v65.toNat, 768]
def k0_dev25 (d0 : Dev nD) : Nat :=
  let c0_i32_610 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_609 : BitVec 32 := 1#32
  let v600 : BitVec 32 := Scalar.muli v7 c1_i32_609
  let v601 : BitVec 32 := Scalar.addi c0_i32_610 v600
  v601.toNat
def k0_dev26 (d0 : Dev nD) : Nat :=
  let c0_i32_618 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_617 : BitVec 32 := 1#32
  let v608 : BitVec 32 := Scalar.muli v5 c1_i32_617
  let v609 : BitVec 32 := Scalar.addi c0_i32_618 v608
  v609.toNat
def k0_off40 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_32 : BitVec 32 := 4#32
  let v37 : BitVec 32 := Scalar.addi v7 c4_i32_32
  let c1_i32_33 : BitVec 32 := 1#32
  let v38 : BitVec 32 := Scalar.subi v37 c1_i32_33
  let c4_i32_34 : BitVec 32 := 4#32
  let v39 : BitVec 32 := Scalar.remsi v38 c4_i32_34
  let c256_i32_35 : BitVec 32 := 256#32
  let v40 : BitVec 32 := Scalar.muli v39 c256_i32_35
  let c0_i32_642 : BitVec 32 := 0#32
  ![v40.toNat, 0]
def k0_dev27 (d0 : Dev nD) : Nat :=
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_640 : BitVec 32 := 1#32
  let v628 : BitVec 32 := Scalar.muli v7 c1_i32_640
  let v629 : BitVec 32 := Scalar.addi c0_i32_641 v628
  v629.toNat
def k0_off41 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_36 : BitVec 32 := 1#32
  let v41 : BitVec 32 := Scalar.addi v7 c1_i32_36
  let c4_i32_37 : BitVec 32 := 4#32
  let v42 : BitVec 32 := Scalar.remsi v41 c4_i32_37
  let c256_i32_38 : BitVec 32 := 256#32
  let v43 : BitVec 32 := Scalar.muli v42 c256_i32_38
  let c128_i32_39 : BitVec 32 := 128#32
  let v44 : BitVec 32 := Scalar.addi v43 c128_i32_39
  let c0_i32_649 : BitVec 32 := 0#32
  ![v44.toNat, 0]
def k0_dev28 (d0 : Dev nD) : Nat :=
  let c0_i32_648 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_647 : BitVec 32 := 1#32
  let v636 : BitVec 32 := Scalar.muli v5 c1_i32_647
  let v637 : BitVec 32 := Scalar.addi c0_i32_648 v636
  v637.toNat
def k0_off42 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c4_i32_52 : BitVec 32 := 4#32
  let v57 : BitVec 32 := Scalar.addi v5 c4_i32_52
  let c1_i32_53 : BitVec 32 := 1#32
  let v58 : BitVec 32 := Scalar.subi v57 c1_i32_53
  let c4_i32_54 : BitVec 32 := 4#32
  let v59 : BitVec 32 := Scalar.remsi v58 c4_i32_54
  let c256_i32_55 : BitVec 32 := 256#32
  let v60 : BitVec 32 := Scalar.muli v59 c256_i32_55
  let c512_i32_673 : BitVec 32 := 512#32
  ![v60.toNat, 512]
def k0_dev29 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_671 : BitVec 32 := 1#32
  let v656 : BitVec 32 := Scalar.muli v7 c1_i32_671
  let v657 : BitVec 32 := Scalar.addi c0_i32_672 v656
  v657.toNat
def k0_off43 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_56 : BitVec 32 := 1#32
  let v61 : BitVec 32 := Scalar.addi v5 c1_i32_56
  let c4_i32_57 : BitVec 32 := 4#32
  let v62 : BitVec 32 := Scalar.remsi v61 c4_i32_57
  let c256_i32_58 : BitVec 32 := 256#32
  let v63 : BitVec 32 := Scalar.muli v62 c256_i32_58
  let c128_i32_59 : BitVec 32 := 128#32
  let v64 : BitVec 32 := Scalar.addi v63 c128_i32_59
  let c512_i32_681 : BitVec 32 := 512#32
  ![v64.toNat, 512]
def k0_dev30 (d0 : Dev nD) : Nat :=
  let c0_i32_680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_679 : BitVec 32 := 1#32
  let v664 : BitVec 32 := Scalar.muli v5 c1_i32_679
  let v665 : BitVec 32 := Scalar.addi c0_i32_680 v664
  v665.toNat
def k0_off44 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_42 : BitVec 32 := 4#32
  let v47 : BitVec 32 := Scalar.addi v7 c4_i32_42
  let c1_i32_43 : BitVec 32 := 1#32
  let v48 : BitVec 32 := Scalar.subi v47 c1_i32_43
  let c4_i32_44 : BitVec 32 := 4#32
  let v49 : BitVec 32 := Scalar.remsi v48 c4_i32_44
  let c256_i32_45 : BitVec 32 := 256#32
  let v50 : BitVec 32 := Scalar.muli v49 c256_i32_45
  let c256_i32_705 : BitVec 32 := 256#32
  ![v50.toNat, 256]
def k0_dev31 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_703 : BitVec 32 := 1#32
  let v684 : BitVec 32 := Scalar.muli v7 c1_i32_703
  let v685 : BitVec 32 := Scalar.addi c0_i32_704 v684
  v685.toNat
def k0_off45 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_46 : BitVec 32 := 1#32
  let v51 : BitVec 32 := Scalar.addi v7 c1_i32_46
  let c4_i32_47 : BitVec 32 := 4#32
  let v52 : BitVec 32 := Scalar.remsi v51 c4_i32_47
  let c256_i32_48 : BitVec 32 := 256#32
  let v53 : BitVec 32 := Scalar.muli v52 c256_i32_48
  let c128_i32_49 : BitVec 32 := 128#32
  let v54 : BitVec 32 := Scalar.addi v53 c128_i32_49
  let c256_i32_713 : BitVec 32 := 256#32
  ![v54.toNat, 256]
def k0_dev32 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_711 : BitVec 32 := 1#32
  let v692 : BitVec 32 := Scalar.muli v5 c1_i32_711
  let v693 : BitVec 32 := Scalar.addi c0_i32_712 v692
  v693.toNat
def k0_off46 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c4_i32_62 : BitVec 32 := 4#32
  let v67 : BitVec 32 := Scalar.addi v5 c4_i32_62
  let c1_i32_63 : BitVec 32 := 1#32
  let v68 : BitVec 32 := Scalar.subi v67 c1_i32_63
  let c4_i32_64 : BitVec 32 := 4#32
  let v69 : BitVec 32 := Scalar.remsi v68 c4_i32_64
  let c256_i32_65 : BitVec 32 := 256#32
  let v70 : BitVec 32 := Scalar.muli v69 c256_i32_65
  let c768_i32_737 : BitVec 32 := 768#32
  ![v70.toNat, 768]
def k0_dev33 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_735 : BitVec 32 := 1#32
  let v712 : BitVec 32 := Scalar.muli v7 c1_i32_735
  let v713 : BitVec 32 := Scalar.addi c0_i32_736 v712
  v713.toNat
def k0_off47 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_66 : BitVec 32 := 1#32
  let v71 : BitVec 32 := Scalar.addi v5 c1_i32_66
  let c4_i32_67 : BitVec 32 := 4#32
  let v72 : BitVec 32 := Scalar.remsi v71 c4_i32_67
  let c256_i32_68 : BitVec 32 := 256#32
  let v73 : BitVec 32 := Scalar.muli v72 c256_i32_68
  let c128_i32_69 : BitVec 32 := 128#32
  let v74 : BitVec 32 := Scalar.addi v73 c128_i32_69
  let c768_i32_745 : BitVec 32 := 768#32
  ![v74.toNat, 768]
def k0_dev34 (d0 : Dev nD) : Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_743 : BitVec 32 := 1#32
  let v720 : BitVec 32 := Scalar.muli v5 c1_i32_743
  let v721 : BitVec 32 := Scalar.addi c0_i32_744 v720
  v721.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Program.lean ====
/- The kernel of one device, rewritten as a list of operations indexed by the stream and the direction. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Fused

open Cert.KernelIdeal Cert.KernelIdeal.Gen
open Idealize.ShloMosaic Idealize.ShloMosaic.TcCoe Idealize.SL.Sem

variable {F : FTy → Type} [FloatOps F]

/-! ## Devices -/

/-- The left neighbour on the ring. -/
abbrev lf (d : Dev nD) : Dev nD := ⟨(d.val + 3) % 4, Nat.mod_lt _ (Nat.succ_pos 3)⟩
/-- The right neighbour on the ring. -/
abbrev rt (d : Dev nD) : Dev nD := ⟨(d.val + 1) % 4, Nat.mod_lt _ (Nat.succ_pos 3)⟩
/-- The device two steps away. -/
abbrev op (d : Dev nD) : Dev nD := ⟨(d.val + 2) % 4, Nat.mod_lt _ (Nat.succ_pos 3)⟩
/-- The neighbour in a direction: `true` is leftward. -/
abbrev nb (b : Bool) (d : Dev nD) : Dev nD := match b with | true => lf d | false => rt d
/-- The direction in which stream `k` reduces its leading half: leftward for the first two streams. -/
abbrev cw (k : Fin 4) : Bool := Nat.blt k.val 2
/-- The chunk that device `d` finishes in stream `k`. -/
abbrev own (k : Fin 4) (d : Dev nD) : Dev nD := nb (!(cw k)) d
/-- The half of the first chunk that stream `k` sends in direction `b`. -/
abbrev hx (k : Fin 4) (b : Bool) : Fin 2 := match b == cw k with | true => 0 | false => 1
/-- The chunk that device `d` sends in direction `b` in the second step of stream `k`. -/
abbrev tgt (k : Fin 4) (b : Bool) (d : Dev nD) : Dev nD := match b == cw k with | true => d | false => op d
/-- The slot that data moving in direction `b` lands in. -/
abbrev sl (b : Bool) : Fin 2 := match b with | true => 1 | false => 0
/-- The chunk that the last step of stream `k` forwards in direction `b` from device `d`. -/
abbrev nxo (k : Fin 4) (b : Bool) (d : Dev nD) : Dev nD := nb (!b) (own k d)

/-- The semaphore column of step `p` in direction `b`. -/
abbrev sx (p : Fin 4) (b : Bool) : Fin 8 :=
  match p, b with
  | 0, true => 0 | 0, false => 1 | 1, true => 2 | 1, false => 3
  | 2, true => 5 | 2, false => 4 | 3, true => 7 | 3, false => 6

/-! ## Memrefs -/

abbrev xM : Memref sig .tc .vmem S1024x256 .f32 := Memref.whole cc0_stg0_0
abbrev wM : Memref sig .tc .vmem S256x1024 .f32 := Memref.whole cc0_stg1_0
abbrev oM : Memref sig .tc .vmem S1024x1024 .f32 := Memref.whole cc0_stg2_0
abbrev aM : Memref sig .tc .vmem S4x2x128x256 .f32 := Memref.whole cc0_scratch0
abbrev bM : Memref sig .tc .vmem S4x2x256x256 .f32 := Memref.whole cc0_scratch1

theorem halfInb (c : Dev nD) (h : Fin 2) (k : Fin 4) :
    ∀ a, ![256 * c.val + 128 * h.val, 256 * k.val] a + S128x256.size a ≤ S1024x1024.size a := by
  revert c h k; decide +kernel
theorem chunkInb (c : Dev nD) (k : Fin 4) :
    ∀ a, ![256 * c.val, 256 * k.val] a + S256x256.size a ≤ S1024x1024.size a := by
  revert c k; decide +kernel
theorem wideInb (c : Dev nD) (j : Fin 2) :
    ∀ a, ![256 * c.val, 512 * j.val] a + S256x512.size a ≤ S1024x1024.size a := by
  revert c j; decide +kernel
theorem fullInb (c : Dev nD) :
    ∀ a, ![256 * c.val, 0] a + S256x1024.size a ≤ S1024x1024.size a := by
  revert c; decide +kernel
theorem xInb (c : Dev nD) :
    ∀ a, ![256 * c.val, 0] a + S256x256.size a ≤ S1024x256.size a := by
  revert c; decide +kernel
theorem wInb (j : Fin 2) :
    ∀ a, ![0, 512 * j.val] a + S256x512.size a ≤ S256x1024.size a := by
  revert j; decide +kernel
theorem wInb' : ∀ a, ![0, 0] a + S256x1024.size a ≤ S256x1024.size a := by
  decide +kernel
theorem aInb (k : Fin 4) (j : Fin 2) :
    ∀ a, ![k.val, j.val, 0, 0] a + S1x1x128x256.size a ≤ S4x2x128x256.size a := by
  revert k j; decide +kernel
theorem bInb (k : Fin 4) (j : Fin 2) :
    ∀ a, ![k.val, j.val, 0, 0] a + S1x1x256x256.size a ≤ S4x2x256x256.size a := by
  revert k j; decide +kernel
theorem sInb (k : Fin 4) (s : Fin 8) :
    ∀ a, ![k.val, s.val] a + S1x1.size a ≤ S4x8.size a := by
  revert k s; decide +kernel

abbrev halfR (c : Dev nD) (h : Fin 2) (k : Fin 4) : Rect S1024x1024 :=
  Rect.unit (s := S1024x1024) ![256 * c.val + 128 * h.val, 256 * k.val] S128x256.size (halfInb c h k)
abbrev chunkR (c : Dev nD) (k : Fin 4) : Rect S1024x1024 :=
  Rect.unit (s := S1024x1024) ![256 * c.val, 256 * k.val] S256x256.size (chunkInb c k)
abbrev wideR (c : Dev nD) (j : Fin 2) : Rect S1024x1024 :=
  Rect.unit (s := S1024x1024) ![256 * c.val, 512 * j.val] S256x512.size (wideInb c j)
abbrev fullR (c : Dev nD) : Rect S1024x1024 :=
  Rect.unit (s := S1024x1024) ![256 * c.val, 0] S256x1024.size (fullInb c)
abbrev xR (c : Dev nD) : Rect S1024x256 :=
  Rect.unit (s := S1024x256) ![256 * c.val, 0] S256x256.size (xInb c)
abbrev wR (j : Fin 2) : Rect S256x1024 :=
  Rect.unit (s := S256x1024) ![0, 512 * j.val] S256x512.size (wInb j)
abbrev wR' : Rect S256x1024 := Rect.unit (s := S256x1024) ![0, 0] S256x1024.size wInb'
abbrev aR (k : Fin 4) (j : Fin 2) : Rect S4x2x128x256 :=
  Rect.unit (s := S4x2x128x256) ![k.val, j.val, 0, 0] S1x1x128x256.size (aInb k j)
abbrev bR (k : Fin 4) (j : Fin 2) : Rect S4x2x256x256 :=
  Rect.unit (s := S4x2x256x256) ![k.val, j.val, 0, 0] S1x1x256x256.size (bInb k j)

/-- Half `h` of chunk `c` of stream `k` of the result. -/
abbrev half (c : Dev nD) (h : Fin 2) (k : Fin 4) : Memref sig .tc .vmem S128x256 .f32 := oM.slice (halfR c h k) (fun _ => rfl)
/-- Chunk `c` of stream `k` of the result. -/
abbrev chunk (c : Dev nD) (k : Fin 4) : Memref sig .tc .vmem S256x256 .f32 := oM.slice (chunkR c k) (fun _ => rfl)
/-- Slot `j` of stream `k` of the first landing buffer. -/
abbrev slotA (k : Fin 4) (j : Fin 2) : Memref sig .tc .vmem S128x256 .f32 :=
  (aM.slice (aR k j) (fun _ => rfl)).squeeze S128x256 squeezes_S1x1x128x256_S128x256
/-- Slot `j` of stream `k` of the second landing buffer. -/
abbrev slotB (k : Fin 4) (j : Fin 2) : Memref sig .tc .vmem S256x256 .f32 :=
  (bM.slice (bR k j) (fun _ => rfl)).squeeze S256x256 squeezes_S1x1x256x256_S256x256

/-- The send semaphore of column `s` of stream `k`. -/
abbrev sS (k : Fin 4) (s : Fin 8) : DmaSem sig :=
  ((cc0_scratch2.slice (Rect.unit (s := S4x8) ![k.val, s.val] S1x1.size (sInb k s))).squeeze S_ squeezes_S1x1_S_).sem
/-- The receive semaphore of column `s` of stream `k`. -/
abbrev rS (k : Fin 4) (s : Fin 8) : DmaSem sig :=
  ((cc0_scratch3.slice (Rect.unit (s := S4x8) ![k.val, s.val] S1x1.size (sInb k s))).squeeze S_ squeezes_S1x1_S_).sem
abbrev barS : Sem sig := (SemArray.scalar (sig.barrier 0 rfl) : Sems sig S_).sem

/-! ## Operations -/

variable (F) in
abbrev Act : Type 1 := Prog (TpuEff nD τ sig (Elt F) Λ₀ .tc) PUnit

/-- One transfer to device `e`. -/
abbrev snd {s : Shape} (src dst : Memref sig .tc .vmem s .f32) (e : Dev nD) (ss rs : DmaSem sig)
    (hsc : (dst : Memref sig (Dev.tc e : Thread nD τ).2.kind .vmem s .f32).view.ref.isScScratch = false) : Act F :=
  Prog.lift (.enqueueDma src (.remote (Dev.tc e) dst (.dma ss) hsc) (.dma rs) (View.wordExact_bits rfl) (View.wordExact_bits rfl)
    ⟨⟨rfl, Or.inl rfl⟩, trivial⟩)
/-- One wait. -/
abbrev wt {s : Shape} (q : DmaSem sig) (src dst : Memref sig .tc .vmem s .f32) : Act F :=
  Prog.lift (.waitDma2 q src dst (View.wordExact_bits rfl) (View.wordExact_bits rfl))

variable (k : Fin 4) (b : Bool) (d c : Dev nD)

abbrev src1 : Memref sig .tc .vmem S128x256 .f32 := half (nb (cw k) d) (hx k b) k
abbrev src2 : Memref sig .tc .vmem S256x256 .f32 := chunk (tgt k b d) k
abbrev src3 : Memref sig .tc .vmem S256x256 .f32 := chunk (own k d) k
abbrev src4 : Memref sig .tc .vmem S128x256 .f32 := half (nxo k b d) (sl b) k

def snd1 : Act F := snd (src1 k b d) (slotA k (sl b)) (nb b d) (sS k (sx 0 b)) (rS k (sx 0 b)) rfl
def snd2 : Act F := snd (src2 k b d) (slotB k (sl b)) (nb b d) (sS k (sx 1 b)) (rS k (sx 1 b)) rfl
def snd3 : Act F := snd (src3 k d) (src3 k d) (nb b d) (sS k (sx 2 b)) (rS k (sx 2 b)) rfl
def snd4 : Act F := snd (src4 k b d) (src4 k b d) (nb b d) (sS k (sx 3 b)) (rS k (sx 3 b)) rfl
def rcv1 : Act F := wt (rS k (sx 0 b)) (src1 k b d) (slotA k (sl b))
def rcv2 : Act F := wt (rS k (sx 1 b)) (src2 k b d) (slotB k (sl b))
def rcv3 : Act F := wt (rS k (sx 2 b)) (src3 k d) (src3 k d)
def rcv4 : Act F := wt (rS k (sx 3 b)) (src4 k b d) (src4 k b d)
def fin1 : Act F := wt (sS k (sx 0 b)) (slotA k (sl b)) (src1 k b d)
def fin2 : Act F := wt (sS k (sx 1 b)) (slotB k (sl b)) (src2 k b d)
def fin3 : Act F := wt (sS k (sx 2 b)) (src3 k d) (src3 k d)
def fin4 : Act F := wt (sS k (sx 3 b)) (src4 k b d) (src4 k b d)

/-- One half-width product: 256 rows of `x` against 512 columns of `w`. -/
def gemmH (j : Fin 2) : Act F := do
  let u : Vec F S256x256 .f32 ← Prog.lift (.load xM (xR c).toLoadRect (View.loadsAt_vmem h_S256x256))
  let v : Vec F S256x512 .f32 ← Prog.lift (.load wM (wR j).toLoadRect (View.loadsAt_vmem h_S256x512))
  let _ : Vec F S256x512 .f32 ← Prog.lift (.load oM (wideR c j).toLoadRect (View.loadsAt_vmem h_S256x512))
  Prog.lift (.store oM (wideR c j) (k0_pay1 u v) Finset.univ (View.stores_vmem_bits_univ h_S256x512 rfl) (.inl rfl))

/-- One full-width product: 256 rows of `x` against the whole of `w`. -/
def gemmF : Act F := do
  let u : Vec F S256x256 .f32 ← Prog.lift (.load xM (xR c).toLoadRect (View.loadsAt_vmem h_S256x256))
  let v : Vec F S256x1024 .f32 ← Prog.lift (.load wM wR'.toLoadRect (View.loadsAt_vmem h_S256x1024))
  let _ : Vec F S256x1024 .f32 ← Prog.lift (.load oM (fullR c).toLoadRect (View.loadsAt_vmem h_S256x1024))
  Prog.lift (.store oM (fullR c) (k0_pay3 u v) Finset.univ (View.stores_vmem_bits_univ h_S256x1024 rfl) (.inl rfl))

/-- Adding the landed half to the device's own. -/
def add : Act F := do
  let u : Vec F S128x256 .f32 ← Prog.lift (.load oM (halfR (tgt k b d) (hx k b) k).toLoadRect (View.loadsAt_vmem h_S128x256))
  let v : Vec F S1x1x128x256 .f32 ← Prog.lift (.load aM (aR k (sl b)).toLoadRect (View.loadsAt_vmem h_S1x1x128x256))
  let _ : Vec F S128x256 .f32 ← Prog.lift (.load oM (halfR (tgt k b d) (hx k b) k).toLoadRect (View.loadsAt_vmem h_S128x256))
  Prog.lift (.store oM (halfR (tgt k b d) (hx k b) k) (k0_pay7 u v) Finset.univ (View.stores_vmem_bits_univ h_S128x256 rfl) (.inl rfl))

/-- Adding the two landed chunks to the device's own and applying the activation. -/
def gel : Act F := do
  let u : Vec F S256x256 .f32 ← Prog.lift (.load oM (chunkR (own k d) k).toLoadRect (View.loadsAt_vmem h_S256x256))
  let v : Vec F S1x1x256x256 .f32 ← Prog.lift (.load bM (bR k 0).toLoadRect (View.loadsAt_vmem h_S1x1x256x256))
  let w : Vec F S1x1x256x256 .f32 ← Prog.lift (.load bM (bR k 1).toLoadRect (View.loadsAt_vmem h_S1x1x256x256))
  let _ : Vec F S256x256 .f32 ← Prog.lift (.load oM (chunkR (own k d) k).toLoadRect (View.loadsAt_vmem h_S256x256))
  Prog.lift (.store oM (chunkR (own k d) k) (k0_pay18 u v w) Finset.univ (View.stores_vmem_bits_univ h_S256x256 rfl) (.inl rfl))

/-- The operations of a list, one after the other. -/
def run : List (Act F) → Act F
  | [] => pure ⟨⟩
  | a :: l => a >>= fun _ => run l

theorem run_append (l l' : List (Act F)) : run (l ++ l') = (run l >>= fun _ => run l') := by
  induction l with
  | nil => rfl
  | cons a l ih =>
    show (a >>= fun _ => run (l ++ l')) = ((a >>= fun _ => run l) >>= fun _ => run l')
    rw [ih]; exact (Prog.bind_assoc _ _ _).symm

end Cert.Fused

end
-- ==== Proof.Tiles.lean ====
/- What every piece of the result and of the landing buffers holds, and how the buffers are cut into pieces. -/
module

public import proofs.«01_k».proof.Proof.Program
public import Idealize.ShloMosaic.Lib.Ring
public import Idealize.ShloMosaic.Lib.ViewIndex

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Contents -/

variable (F) in
abbrev OBuf : Type := (cc0_stg2_0 : Ref sig .tc).ty.Contents (Elt F)
variable (F) in
abbrev ABuf : Type := (cc0_scratch0 : Ref sig .tc).ty.Contents (Elt F)
variable (F) in
abbrev BBuf : Type := (cc0_scratch1 : Ref sig .tc).ty.Contents (Elt F)
variable (F) in
abbrev XBuf : Type := (cc0_stg0_0 : Ref sig .tc).ty.Contents (Elt F)
variable (F) in
abbrev WBuf : Type := (cc0_stg1_0 : Ref sig .tc).ty.Contents (Elt F)

/-- The chunk an element's row lies in. -/
abbrev rowC (i : S1024x1024.Idx) : Dev nD := ⟨(i 0).val / 256 % 4, Nat.mod_lt _ (Nat.succ_pos 3)⟩
/-- The stream an element's column lies in. -/
abbrev colC (i : S1024x1024.Idx) : Fin 4 := ⟨(i 1).val / 256 % 4, Nat.mod_lt _ (Nat.succ_pos 3)⟩
/-- The half of the columns an element's column lies in. -/
abbrev colH (i : S1024x1024.Idx) : Fin 2 := ⟨(i 1).val / 512 % 2, Nat.mod_lt _ (Nat.succ_pos 1)⟩

variable (xs : Dev nD → XBuf F) (ws : Dev nD → WBuf F)

/-- Device `d`'s partial product on chunk `c`, computed at full width. -/
def gF (d c : Dev nD) : OBuf F :=
  (oM.access (fullR c)).write (Elt F) (fun _ => default) (k0_pay3 (xM.view.readAt (Elt F) (xR c).toLoadRect (xs d)) (wM.view.readAt (Elt F) wR'.toLoadRect (ws d))) Finset.univ
/-- Device `d`'s partial product on chunk `c`, half `j` of the columns. -/
def gH (d c : Dev nD) (j : Fin 2) : OBuf F :=
  (oM.access (wideR c j)).write (Elt F) (fun _ => default) (k0_pay1 (xM.view.readAt (Elt F) (xR c).toLoadRect (xs d)) (wM.view.readAt (Elt F) (wR j).toLoadRect (ws d))) Finset.univ
/-- Device `d`'s partial product. -/
def pG (d : Dev nD) : OBuf F := fun i =>
  if rowC i = d ∨ rowC i = op d then gF xs ws d (rowC i) i else gH xs ws d (rowC i) (colH i) i
/-- What lands in the first buffer when `s` sends in direction `b`. -/
def pA (k : Fin 4) (b : Bool) (s : Dev nD) : ABuf F :=
  (slotA k (sl b)).view.write (Elt F) (fun _ => default) ((src1 k b s).view.read (Elt F) (pG xs ws s)) Finset.univ
/-- Device `d`'s chunk for direction `b` after the landed half is added. -/
def pS (k : Fin 4) (b : Bool) (d : Dev nD) : OBuf F :=
  (oM.access (halfR (tgt k b d) (hx k b) k)).write (Elt F) (pG xs ws d)
    (k0_pay7 (oM.view.readAt (Elt F) (halfR (tgt k b d) (hx k b) k).toLoadRect (pG xs ws d)) (aM.view.readAt (Elt F) (aR k (sl b)).toLoadRect (pA xs ws k b (nb (!b) d)))) Finset.univ
/-- What lands in the second buffer when `s` sends in direction `b`. -/
def pB (k : Fin 4) (b : Bool) (s : Dev nD) : BBuf F :=
  (slotB k (sl b)).view.write (Elt F) (fun _ => default) ((src2 k b s).view.read (Elt F) (pS xs ws k b s)) Finset.univ
/-- The chunk device `d` finishes in stream `k`. -/
def pY (k : Fin 4) (d : Dev nD) : OBuf F :=
  (oM.access (chunkR (own k d) k)).write (Elt F) (pG xs ws d)
    (k0_pay18 (oM.view.readAt (Elt F) (chunkR (own k d) k).toLoadRect (pG xs ws d)) (bM.view.readAt (Elt F) (bR k 0).toLoadRect (pB xs ws k false (nb true d)))
      (bM.view.readAt (Elt F) (bR k 1).toLoadRect (pB xs ws k true (nb false d)))) Finset.univ
/-- The result. -/
def pZ : OBuf F := fun i => pY xs ws (colC i) (nb (cw (colC i)) (rowC i)) i

/-! ## The pieces as sets of elements -/

abbrev HS (c : Dev nD) (h : Fin 2) (k : Fin 4) : Finset S1024x1024.Idx := (halfR c h k).set
abbrev CS (c : Dev nD) (k : Fin 4) : Finset S1024x1024.Idx := (chunkR c k).set
abbrev WS (c : Dev nD) (j : Fin 2) : Finset S1024x1024.Idx := (wideR c j).set
abbrev FS (c : Dev nD) : Finset S1024x1024.Idx := (fullR c).set
abbrev AS (x : Fin 4 × Fin 2) : Finset S4x2x128x256.Idx := (aR x.1 x.2).set
abbrev BS (x : Fin 4 × Fin 2) : Finset S4x2x256x256.Idx := (bR x.1 x.2).set
/-- Stream `h` of half `j` of the columns. -/
abbrev pair (j h : Fin 2) : Fin 4 := ⟨2 * j.val + h.val, by have := j.isLt; have := h.isLt; omega⟩

theorem set_half (c : Dev nD) (h : Fin 2) (k : Fin 4) : (half c h k).view.set = HS c h k := View.set_slice_whole _ _
theorem set_chunk (c : Dev nD) (k : Fin 4) : (chunk c k).view.set = CS c k := View.set_slice_whole _ _
theorem set_wide (c : Dev nD) (j : Fin 2) : (oM.access (wideR c j)).set = WS c j := View.set_slice_whole _ _
theorem set_full (c : Dev nD) : (oM.access (fullR c)).set = FS c := View.set_slice_whole _ _
theorem set_slotA (k : Fin 4) (j : Fin 2) : (slotA k j).view.set = AS (k, j) := (View.set_reshape _ _).trans (View.set_slice_whole _ _)
theorem set_slotB (k : Fin 4) (j : Fin 2) : (slotB k j).view.set = BS (k, j) := (View.set_reshape _ _).trans (View.set_slice_whole _ _)

theorem mem_half (c : Dev nD) (h : Fin 2) (k : Fin 4) (i : S1024x1024.Idx) :
    Iff (i ∈ HS c h k) ((256 * c.val + 128 * h.val ≤ (i 0).val ∧ (i 0).val < 256 * c.val + 128 * h.val + 128) ∧ 256 * k.val ≤ (i 1).val ∧ (i 1).val < 256 * k.val + 256) := by
  rw [Rect.mem_set_unit]; exact Fin.forall_fin_two
theorem mem_chunk (c : Dev nD) (k : Fin 4) (i : S1024x1024.Idx) :
    Iff (i ∈ CS c k) ((256 * c.val ≤ (i 0).val ∧ (i 0).val < 256 * c.val + 256) ∧ 256 * k.val ≤ (i 1).val ∧ (i 1).val < 256 * k.val + 256) := by
  rw [Rect.mem_set_unit]; exact Fin.forall_fin_two
theorem mem_wide (c : Dev nD) (j : Fin 2) (i : S1024x1024.Idx) :
    Iff (i ∈ WS c j) ((256 * c.val ≤ (i 0).val ∧ (i 0).val < 256 * c.val + 256) ∧ 512 * j.val ≤ (i 1).val ∧ (i 1).val < 512 * j.val + 512) := by
  rw [Rect.mem_set_unit]; exact Fin.forall_fin_two
theorem mem_full (c : Dev nD) (i : S1024x1024.Idx) :
    Iff (i ∈ FS c) ((256 * c.val ≤ (i 0).val ∧ (i 0).val < 256 * c.val + 256) ∧ 0 ≤ (i 1).val ∧ (i 1).val < 0 + 1024) := by
  rw [Rect.mem_set_unit]; exact Fin.forall_fin_two
/-- The slot an element of a landing buffer lies in, by its first two coordinates. -/
theorem mem_slotA (x : Fin 4 × Fin 2) (i : S4x2x128x256.Idx) : Iff (i ∈ AS x) ((i 0).val = x.1.val ∧ (i 1).val = x.2.val) := by
  rw [Rect.mem_set_unit]
  constructor
  · intro h
    have h0 : x.1.val ≤ (i 0).val ∧ (i 0).val < x.1.val + 1 := h 0
    have h1 : x.2.val ≤ (i 1).val ∧ (i 1).val < x.2.val + 1 := h 1
    omega
  · intro ⟨h0, h1⟩ a
    match a with
    | 0 => exact (show x.1.val ≤ (i 0).val ∧ (i 0).val < x.1.val + 1 by omega)
    | 1 => exact (show x.2.val ≤ (i 1).val ∧ (i 1).val < x.2.val + 1 by omega)
    | 2 => have h2 : (i 2).val < 128 := (i 2).isLt; exact (show 0 ≤ (i 2).val ∧ (i 2).val < 0 + 128 by omega)
    | 3 => have h3 : (i 3).val < 256 := (i 3).isLt; exact (show 0 ≤ (i 3).val ∧ (i 3).val < 0 + 256 by omega)
theorem mem_slotB (x : Fin 4 × Fin 2) (i : S4x2x256x256.Idx) : Iff (i ∈ BS x) ((i 0).val = x.1.val ∧ (i 1).val = x.2.val) := by
  rw [Rect.mem_set_unit]
  constructor
  · intro h
    have h0 : x.1.val ≤ (i 0).val ∧ (i 0).val < x.1.val + 1 := h 0
    have h1 : x.2.val ≤ (i 1).val ∧ (i 1).val < x.2.val + 1 := h 1
    omega
  · intro ⟨h0, h1⟩ a
    match a with
    | 0 => exact (show x.1.val ≤ (i 0).val ∧ (i 0).val < x.1.val + 1 by omega)
    | 1 => exact (show x.2.val ≤ (i 1).val ∧ (i 1).val < x.2.val + 1 by omega)
    | 2 => have h2 : (i 2).val < 256 := (i 2).isLt; exact (show 0 ≤ (i 2).val ∧ (i 2).val < 0 + 256 by omega)
    | 3 => have h3 : (i 3).val < 256 := (i 3).isLt; exact (show 0 ≤ (i 3).val ∧ (i 3).val < 0 + 256 by omega)
theorem dlt (c : Dev nD) : c.val < 4 := c.isLt
theorem lt0 (i : S1024x1024.Idx) : (i 0).val < 1024 := (i 0).isLt
theorem lt1 (i : S1024x1024.Idx) : (i 1).val < 1024 := (i 1).isLt

/-- What is written on the whole of a view does not depend on what was there. -/
theorem write_any {κ : Kind} {sp : Space} {s : Shape} {e : EltTy} (v : View sig κ sp s e) (f g : v.ty.Contents (Elt F)) (w : s.Idx → Elt F e) (i : v.ty.Idx) (h : i ∈ v.set) :
    v.write (Elt F) f w Finset.univ i = v.write (Elt F) g w Finset.univ i := by
  obtain ⟨x, -, rfl⟩ := Finset.mem_map.mp h
  rw [View.write_emb_of_mem _ _ (Finset.mem_univ x), View.write_emb_of_mem _ _ (Finset.mem_univ x)]
/-- Copying a view's elements onto themselves gives those elements. -/
theorem write_same {κ : Kind} {sp : Space} {s : Shape} {e : EltTy} (v : View sig κ sp s e) (f g : v.ty.Contents (Elt F)) (i : v.ty.Idx) (h : i ∈ v.set) :
    v.write (Elt F) f (v.read (Elt F) g) Finset.univ i = g i := by
  obtain ⟨x, -, rfl⟩ := Finset.mem_map.mp h
  rw [View.write_emb_of_mem _ _ (Finset.mem_univ x), View.read_apply, cast_cast, cast_eq]

theorem nb_own (k : Fin 4) (d : Dev nD) : nb (cw k) (own k d) = d := by revert k d; decide +kernel

/-! ## The contents each step leaves -/

theorem full_pG (d c : Dev nD) (hc : c = d ∨ c = op d) (f : OBuf F) (i : S1024x1024.Idx) (h : i ∈ FS c) :
    (oM.access (fullR c)).write (Elt F) f (k0_pay3 (xM.view.readAt (Elt F) (xR c).toLoadRect (xs d)) (wM.view.readAt (Elt F) wR'.toLoadRect (ws d))) Finset.univ i = pG xs ws d i := by
  have hr : rowC i = c := by have := (mem_full c i).mp h; apply Fin.ext; show (i 0).val / 256 % 4 = c.val; have := dlt c; omega
  unfold pG; rw [hr, if_pos hc]
  exact write_any _ _ _ _ _ (by rw [set_full]; exact h)
theorem wide_pG (d c : Dev nD) (j : Fin 2) (hc : ¬ (c = d ∨ c = op d)) (f : OBuf F) (i : S1024x1024.Idx) (h : i ∈ WS c j) :
    (oM.access (wideR c j)).write (Elt F) f (k0_pay1 (xM.view.readAt (Elt F) (xR c).toLoadRect (xs d)) (wM.view.readAt (Elt F) (wR j).toLoadRect (ws d))) Finset.univ i = pG xs ws d i := by
  have hr : rowC i = c := by have := (mem_wide c j i).mp h; apply Fin.ext; show (i 0).val / 256 % 4 = c.val; have := dlt c; omega
  have hj : colH i = j := by have := (mem_wide c j i).mp h; apply Fin.ext; show (i 1).val / 512 % 2 = j.val; have := j.isLt; omega
  unfold pG; rw [hr, hj, if_neg hc]
  exact write_any _ _ _ _ _ (by rw [set_wide]; exact h)
/-- Off the half that was added to, the chunk holds the partial product. -/
theorem pS_off (k : Fin 4) (b : Bool) (d c : Dev nD) (h : Fin 2) (hh : h ≠ hx k b) (i : S1024x1024.Idx) (hi : i ∈ HS c h k) :
    pS xs ws k b d i = pG xs ws d i := by
  unfold pS
  refine View.write_of_not_mem _ _ _ fun hm => hh ?_
  have h1 := (mem_half (tgt k b d) (hx k b) k i).mp (by rw [← set_half]; exact View.setOn_subset_set _ _ hm)
  have h2 := (mem_half c h k i).mp hi
  apply Fin.ext; have := h.isLt; have := (hx k b).isLt; omega
theorem pZ_chunk (k : Fin 4) (d : Dev nD) (f : OBuf F) (i : S1024x1024.Idx) (h : i ∈ CS (own k d) k) :
    pY xs ws k d i = pZ xs ws i := by
  have h' := (mem_chunk (own k d) k i).mp h
  have hr : rowC i = own k d := by apply Fin.ext; show (i 0).val / 256 % 4 = (own k d).val; have := dlt (own k d); omega
  have hk : colC i = k := by apply Fin.ext; show (i 1).val / 256 % 4 = k.val; have := k.isLt; omega
  unfold pZ; rw [hr, hk, nb_own]

/-! ## The pieces are disjoint and cover -/

theorem disj_half (c : Dev nD) (k : Fin 4) (h h' : Fin 2) (hne : h ≠ h') : Disjoint (HS c h k) (HS c h' k) :=
  Finset.disjoint_left.mpr fun i hi hi' => hne <| Fin.ext <| by
    have h1 := (mem_half c h k i).mp hi; have h2 := (mem_half c h' k i).mp hi'; have := h.isLt; have := h'.isLt; omega
theorem cover_half (c : Dev nD) (k : Fin 4) : Finset.univ.biUnion (fun h => HS c h k) = CS c k := by
  ext i
  rw [Finset.mem_biUnion, mem_chunk]
  constructor
  · rintro ⟨h, -, hi⟩; rw [mem_half] at hi; have := h.isLt; omega
  · intro hi
    refine ⟨⟨((i 0).val / 128) % 2, Nat.mod_lt _ (Nat.succ_pos 1)⟩, Finset.mem_univ _, (mem_half _ _ _ _).mpr ?_⟩
    dsimp only; omega
theorem disj_pair (c : Dev nD) (j h h' : Fin 2) (hne : h ≠ h') : Disjoint (CS c (pair j h)) (CS c (pair j h')) :=
  Finset.disjoint_left.mpr fun i hi hi' => hne <| Fin.ext <| by
    have h1 := (mem_chunk c _ i).mp hi; have h2 := (mem_chunk c _ i).mp hi'; have := h.isLt; have := h'.isLt; dsimp only at h1 h2; omega
theorem cover_pair (c : Dev nD) (j : Fin 2) : Finset.univ.biUnion (fun h => CS c (pair j h)) = WS c j := by
  ext i
  rw [Finset.mem_biUnion, mem_wide]
  constructor
  · rintro ⟨h, -, hi⟩; rw [mem_chunk] at hi; have := h.isLt; dsimp only at hi; omega
  · intro hi
    refine ⟨⟨((i 1).val / 256) % 2, Nat.mod_lt _ (Nat.succ_pos 1)⟩, Finset.mem_univ _, (mem_chunk _ _ _).mpr ?_⟩
    dsimp only; have := j.isLt; omega
theorem disj_wide (c : Dev nD) (h h' : Fin 2) (hne : h ≠ h') : Disjoint (WS c h) (WS c h') :=
  Finset.disjoint_left.mpr fun i hi hi' => hne <| Fin.ext <| by
    have h1 := (mem_wide c _ i).mp hi; have h2 := (mem_wide c _ i).mp hi'; have := h.isLt; have := h'.isLt; omega
theorem cover_wide (c : Dev nD) : Finset.univ.biUnion (WS c) = FS c := by
  ext i
  rw [Finset.mem_biUnion, mem_full]
  constructor
  · rintro ⟨h, -, hi⟩; rw [mem_wide] at hi; have := h.isLt; omega
  · intro hi
    refine ⟨⟨((i 1).val / 512) % 2, Nat.mod_lt _ (Nat.succ_pos 1)⟩, Finset.mem_univ _, (mem_wide _ _ _).mpr ?_⟩
    dsimp only; omega
theorem disj_full (h h' : Dev nD) (hne : h ≠ h') : Disjoint (FS h) (FS h') :=
  Finset.disjoint_left.mpr fun i hi hi' => hne <| Fin.ext <| by
    have h1 := (mem_full _ i).mp hi; have h2 := (mem_full _ i).mp hi'; omega
theorem cover_full : Finset.univ.biUnion FS = Finset.univ :=
  Finset.eq_univ_iff_forall.mpr fun i => Finset.mem_biUnion.mpr ⟨rowC i, Finset.mem_univ _, (mem_full _ _).mpr (by
    have := lt0 i; have := lt1 i; dsimp only; omega)⟩
theorem disj_slotA (x y : Fin 4 × Fin 2) (hne : x ≠ y) : Disjoint (AS x) (AS y) :=
  Finset.disjoint_left.mpr fun i hi hi' => hne <| by
    rw [mem_slotA] at hi hi'; exact Prod.ext (Fin.ext (hi.1.symm.trans hi'.1)) (Fin.ext (hi.2.symm.trans hi'.2))
theorem disj_slotB (x y : Fin 4 × Fin 2) (hne : x ≠ y) : Disjoint (BS x) (BS y) :=
  Finset.disjoint_left.mpr fun i hi hi' => hne <| by
    rw [mem_slotB] at hi hi'; exact Prod.ext (Fin.ext (hi.1.symm.trans hi'.1)) (Fin.ext (hi.2.symm.trans hi'.2))
theorem cover_slotA : Finset.univ.biUnion AS = Finset.univ :=
  Finset.eq_univ_iff_forall.mpr fun i => Finset.mem_biUnion.mpr ⟨(⟨(i 0).val, (i 0).isLt⟩, ⟨(i 1).val, (i 1).isLt⟩), Finset.mem_univ _, (mem_slotA _ _).mpr ⟨rfl, rfl⟩⟩
theorem cover_slotB : Finset.univ.biUnion BS = Finset.univ :=
  Finset.eq_univ_iff_forall.mpr fun i => Finset.mem_biUnion.mpr ⟨(⟨(i 0).val, (i 0).isLt⟩, ⟨(i 1).val, (i 1).isLt⟩), Finset.mem_univ _, (mem_slotB _ _).mpr ⟨rfl, rfl⟩⟩

/-! ## Cutting the buffers -/

section Cut
variable {Ix Name Lvl U : Type} [DecidableEq Ix] [DecidableEq Name] [Preorder Lvl] [URA U]
local notation "𝕄" => MT nD τ sig Ix (Elt F) Name U Lvl

/-- Half `h` of chunk `c` of stream `k` on device `t`. -/
def hT (t c : Dev nD) (h : Fin 2) (k : Fin 4) (f : OBuf F) : sProp 𝕄 :=
  (half c h k).view.loc (t : Thread nD τ) ↦[(half c h k).view.set]{fullShare} f
/-- A share of chunk `c` of stream `k` on device `t`. -/
def cT (t c : Dev nD) (k : Fin 4) (q : PosShare TreeShare) (f : OBuf F) : sProp 𝕄 :=
  (chunk c k).view.loc (t : Thread nD τ) ↦[(chunk c k).view.set]{q} f
/-- Half `j` of the columns of chunk `c` on device `t`. -/
def wT (t c : Dev nD) (j : Fin 2) (f : OBuf F) : sProp 𝕄 :=
  (oM.access (wideR c j)).loc (t : Thread nD τ) ↦[(oM.access (wideR c j)).set]{fullShare} f
/-- Chunk `c` on device `t`. -/
def fT (t c : Dev nD) (f : OBuf F) : sProp 𝕄 :=
  (oM.access (fullR c)).loc (t : Thread nD τ) ↦[(oM.access (fullR c)).set]{fullShare} f
/-- A slot of the first landing buffer on device `t`. -/
def aT (t : Dev nD) (k : Fin 4) (j : Fin 2) (f : ABuf F) : sProp 𝕄 :=
  (slotA k j).view.loc (t : Thread nD τ) ↦[(slotA k j).view.set]{fullShare} f
/-- A slot of the second landing buffer on device `t`. -/
def bT (t : Dev nD) (k : Fin 4) (j : Fin 2) (f : BBuf F) : sProp 𝕄 :=
  (slotB k j).view.loc (t : Thread nD τ) ↦[(slotB k j).view.set]{fullShare} f

theorem hT_congr {t c : Dev nD} {h : Fin 2} {k : Fin 4} {f g : OBuf F} (e : ∀ i ∈ HS c h k, f i = g i) : (hT t c h k f : sProp 𝕄) = hT t c h k g :=
  pointsTo_congr (by rw [set_half]; exact e)
theorem cT_congr {t c : Dev nD} {k : Fin 4} {q : PosShare TreeShare} {f g : OBuf F} (e : ∀ i ∈ CS c k, f i = g i) : (cT t c k q f : sProp 𝕄) = cT t c k q g :=
  pointsTo_congr (by rw [set_chunk]; exact e)
theorem wT_congr {t c : Dev nD} {j : Fin 2} {f g : OBuf F} (e : ∀ i ∈ WS c j, f i = g i) : (wT t c j f : sProp 𝕄) = wT t c j g :=
  pointsTo_congr (by rw [set_wide]; exact e)
theorem fT_congr {t c : Dev nD} {f g : OBuf F} (e : ∀ i ∈ FS c, f i = g i) : (fT t c f : sProp 𝕄) = fT t c g :=
  pointsTo_congr (by rw [set_full]; exact e)

theorem hT_eq (t c : Dev nD) (h : Fin 2) (k : Fin 4) (f : OBuf F) : (hT t c h k f : sProp 𝕄) = (((t : Thread nD τ).loc cc0_stg2_0) ↦[HS c h k]{fullShare} f) := by
  unfold hT; rw [set_half]
theorem cT_eq (t c : Dev nD) (k : Fin 4) (q : PosShare TreeShare) (f : OBuf F) : (cT t c k q f : sProp 𝕄) = (((t : Thread nD τ).loc cc0_stg2_0) ↦[CS c k]{q} f) := by
  unfold cT; rw [set_chunk]
theorem wT_eq (t c : Dev nD) (j : Fin 2) (f : OBuf F) : (wT t c j f : sProp 𝕄) = (((t : Thread nD τ).loc cc0_stg2_0) ↦[WS c j]{fullShare} f) := by
  unfold wT; rw [set_wide]
theorem fT_eq (t c : Dev nD) (f : OBuf F) : (fT t c f : sProp 𝕄) = (((t : Thread nD τ).loc cc0_stg2_0) ↦[FS c]{fullShare} f) := by
  unfold fT; rw [set_full]
theorem aT_eq (t : Dev nD) (k : Fin 4) (j : Fin 2) (f : ABuf F) : (aT t k j f : sProp 𝕄) = (((t : Thread nD τ).loc cc0_scratch0) ↦[AS (k, j)]{fullShare} f) := by
  unfold aT; rw [set_slotA]
theorem bT_eq (t : Dev nD) (k : Fin 4) (j : Fin 2) (f : BBuf F) : (bT t k j f : sProp 𝕄) = (((t : Thread nD τ).loc cc0_scratch1) ↦[BS (k, j)]{fullShare} f) := by
  unfold bT; rw [set_slotB]

/-- A chunk is its two halves. -/
theorem cT_halves (t c : Dev nD) (k : Fin 4) (f : OBuf F) : (cT t c k fullShare f : sProp 𝕄) = bigSep Finset.univ fun h => hT t c h k f := by
  rw [cT_eq, bigSep_congr fun h _ => hT_eq t c h k f]
  exact Ring.pointsTo_sub_blocks (ℓ := (t : Thread nD τ).loc cc0_stg2_0) (fun h => HS c h k) (disj_half c k) _ (cover_half c k) f
/-- Half the columns of a chunk is two of its streams. -/
theorem wT_chunks (t c : Dev nD) (j : Fin 2) (f : OBuf F) : (wT t c j f : sProp 𝕄) = bigSep Finset.univ fun h : Fin 2 => cT t c (pair j h) fullShare f := by
  rw [wT_eq, bigSep_congr fun h _ => cT_eq t c (pair j h) fullShare f]
  exact Ring.pointsTo_sub_blocks (ℓ := (t : Thread nD τ).loc cc0_stg2_0) (fun h => CS c (pair j h)) (disj_pair c j) _ (cover_pair c j) f
/-- A whole chunk is its two halves of the columns. -/
theorem fT_wides (t c : Dev nD) (f : OBuf F) : (fT t c f : sProp 𝕄) = bigSep Finset.univ fun j => wT t c j f := by
  rw [fT_eq, bigSep_congr fun j _ => wT_eq t c j f]
  exact Ring.pointsTo_sub_blocks (ℓ := (t : Thread nD τ).loc cc0_stg2_0) (WS c) (disj_wide c) _ (cover_wide c) f
/-- The result is its four chunks. -/
theorem out_chunks (t : Dev nD) (f : OBuf F) : (((t : Thread nD τ).loc cc0_stg2_0) ↦{fullShare} f : sProp 𝕄) = bigSep Finset.univ fun c => fT t c f := by
  rw [bigSep_congr fun c _ => fT_eq t c f]
  exact Ring.pointsTo_blocks (ℓ := (t : Thread nD τ).loc cc0_stg2_0) FS disj_full cover_full f
/-- The first landing buffer is its slots; -/
theorem scrA_split (t : Dev nD) (f : ABuf F) : (((t : Thread nD τ).loc cc0_scratch0) ↦{fullShare} f : sProp 𝕄) = bigSep Finset.univ fun x : Fin 4 × Fin 2 => aT t x.1 x.2 f := by
  rw [bigSep_congr fun (x : Fin 4 × Fin 2) _ => aT_eq t x.1 x.2 f]
  exact Ring.pointsTo_blocks (ℓ := (t : Thread nD τ).loc cc0_scratch0) AS disj_slotA cover_slotA f
/-- its slots, at any contents, are the buffer. -/
theorem scrA_join (t : Dev nD) : (bigSep Finset.univ fun x : Fin 4 × Fin 2 => iprop(∃ f, aT t x.1 x.2 f)) ⊢ (iprop(∃ f : ABuf F, ((t : Thread nD τ).loc cc0_scratch0) ↦{fullShare} f) : sProp 𝕄) := by
  simp only [aT_eq]
  exact Ring.pointsTo_blocks_join_exists (ℓ := (t : Thread nD τ).loc cc0_scratch0) AS disj_slotA cover_slotA (fun _ => default)
/-- The second likewise; -/
theorem scrB_split (t : Dev nD) (f : BBuf F) : (((t : Thread nD τ).loc cc0_scratch1) ↦{fullShare} f : sProp 𝕄) = bigSep Finset.univ fun x : Fin 4 × Fin 2 => bT t x.1 x.2 f := by
  rw [bigSep_congr fun (x : Fin 4 × Fin 2) _ => bT_eq t x.1 x.2 f]
  exact Ring.pointsTo_blocks (ℓ := (t : Thread nD τ).loc cc0_scratch1) BS disj_slotB cover_slotB f
/-- and back. -/
theorem scrB_join (t : Dev nD) : (bigSep Finset.univ fun x : Fin 4 × Fin 2 => iprop(∃ f, bT t x.1 x.2 f)) ⊢ (iprop(∃ f : BBuf F, ((t : Thread nD τ).loc cc0_scratch1) ↦{fullShare} f) : sProp 𝕄) := by
  simp only [bT_eq]
  exact Ring.pointsTo_blocks_join_exists (ℓ := (t : Thread nD τ).loc cc0_scratch1) BS disj_slotB cover_slotB (fun _ => default)

end Cut

end Cert.Fused

end
-- ==== Proof.Cells.lean ====
/- The semaphores of the kernel, what each transfer and each handshake signal hands over, and what every device owes. -/
module

public import proofs.«01_k».proof.Proof.Tiles

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Semaphores -/

/-- A transfer of a device: its stream, its step and its direction. -/
abbrev Xfer : Type := Fin 4 × Fin 4 × Bool
/-- A semaphore of a device: the barrier, or the send (`true`) or receive (`false`) side of a transfer. -/
abbrev CI : Type := Option (Bool × Xfer)

/-- The semaphore. -/
def csem : CI → SemLoc sig
  | none => .reg barS
  | some (true, x) => .dma (sS x.1 (sx x.2.1 x.2.2))
  | some (false, x) => .dma (rS x.1 (sx x.2.1 x.2.2))

/-- No two of them are the same. -/
theorem csem_injective : Function.Injective csem := by unfold Function.Injective; decide +kernel

/-- The semaphore of device `d`. -/
abbrev cell (d : Dev nD) (i : CI) : GSem nD τ sig := ((d : Thread nD τ), csem i)
abbrev bar (d : Dev nD) : GSem nD τ sig := cell d none
abbrev snt (d : Dev nD) (x : Xfer) : GSem nD τ sig := cell d (some (true, x))
abbrev rcv (d : Dev nD) (x : Xfer) : GSem nD τ sig := cell d (some (false, x))

/-- Which of them a semaphore is. -/
def decode (sm : SemLoc sig) : Option CI := Function.partialInv csem sm
theorem decode_csem (i : CI) : decode (csem i) = some i := Function.partialInv_left csem_injective i

/-- The units of a half and of a chunk. -/
abbrev nA : ℕ := (slotA 0 0).view.dmaCredit
abbrev nB : ℕ := (slotB 0 0).view.dmaCredit
/-- The units of a transfer of step `p`. -/
abbrev nX (p : Fin 4) : ℕ := match p with | 0 => nA | 1 => nB | 2 => nB | 3 => nA
theorem nX_pos (p : Fin 4) : 0 < nX p := by
  fin_cases p
  · exact View.dmaCredit_pos _ (by decide)
  · exact View.dmaCredit_pos _ (by decide)
  · exact View.dmaCredit_pos _ (by decide)
  · exact View.dmaCredit_pos _ (by decide)
/-- The units of a semaphore's duty. -/
abbrev amt : CI → ℕ
  | none => 1
  | some (_, x) => nX x.2.1

/-! ## What is handed over -/

/-- A half, a chunk, a slot at any contents. -/
def Ht (t : Dev nD) (k : Fin 4) (j : Fin 2) : sProp 𝕄 := iprop(∃ f, hT t (op (own k t)) j k f)
def Ct (t c : Dev nD) (k : Fin 4) : sProp 𝕄 := iprop(∃ f, cT t c k fullShare f)
def At (t : Dev nD) (k : Fin 4) (j : Fin 2) : sProp 𝕄 := iprop(∃ f, aT t k j f)
def Bt (t : Dev nD) (k : Fin 4) (j : Fin 2) : sProp 𝕄 := iprop(∃ f, bT t k j f)
/-- For the streams that reduce rightward first. -/
def extra (k : Fin 4) (P : sProp 𝕄) : sProp 𝕄 := match cw k with | true => iprop(emp) | false => P
/-- For the streams that reduce leftward first. -/
def stay (k : Fin 4) (P : sProp 𝕄) : sProp 𝕄 := match cw k with | true => P | false => iprop(emp)
/-- The share of the finished chunk that each direction sends. -/
abbrev shr (b : Bool) : PosShare TreeShare := match b with | true => fullShare.left | false => fullShare.right

variable (xs : Dev nD → XBuf F) (ws : Dev nD → WBuf F)

/-- What device `d` receives with a transfer. -/
def recvPay (d : Dev nD) : Xfer → sProp 𝕄
  | (k, 0, b) => iprop(aT d k (sl b) (pA xs ws k b (nb (!b) d)) ∗ Ht (nb (!b) d) k (hx k b))
  | (k, 1, b) => iprop(bT d k (sl b) (pB xs ws k b (nb (!b) d)) ∗ Ct (nb (!b) d) (own k d) k ∗ extra k (Ht (op d) k (hx k b)))
  | (k, 2, b) => iprop(cT d (own k (nb (!b) d)) k fullShare (pZ xs ws) ∗ extra k (Ht (nb b d) k (hx k b)))
  | (k, 3, b) => hT d (op (own k d)) (sl b) k (pZ xs ws)
/-- What device `d` gets back from a transfer of its own. -/
def sendPay (d : Dev nD) : Xfer → sProp 𝕄
  | (k, 0, b) => iprop(emp)
  | (k, 1, b) => iprop(emp)
  | (k, 2, b) => cT d (own k d) k (shr b) (pZ xs ws)
  | (k, 3, b) => hT d (nxo k b d) (sl b) k (pZ xs ws)
/-- What device `d` receives with the signal of its neighbour in direction `b`: that neighbour's slots. -/
def barPay (d : Dev nD) (b : Bool) : sProp 𝕄 :=
  bigSep Finset.univ fun k : Fin 4 => iprop(At (nb b d) k (sl b) ∗ Bt (nb b d) k (sl b))
/-- All of these. -/
def pay (d : Dev nD) (i : CI) (b : Bool) : sProp 𝕄 := match i with
  | none => barPay d b
  | some (true, x) => sendPay xs ws d x
  | some (false, x) => recvPay xs ws d x

section Storable
variable (d t c : Dev nD) (k : Fin 4)
instance hT_storable (j : Fin 2) (f : OBuf F) : BI.Storable (upEmb : UEmb _ 𝕄) (hT t c j k f) := by unfold hT; infer_instance
instance cT_storable (q : PosShare TreeShare) (f : OBuf F) : BI.Storable (upEmb : UEmb _ 𝕄) (cT t c k q f) := by unfold cT; infer_instance
instance aT_storable (j : Fin 2) (f : ABuf F) : BI.Storable (upEmb : UEmb _ 𝕄) (aT t k j f) := by unfold aT; infer_instance
instance bT_storable (j : Fin 2) (f : BBuf F) : BI.Storable (upEmb : UEmb _ 𝕄) (bT t k j f) := by unfold bT; infer_instance
instance Ht_storable (j : Fin 2) : BI.Storable (upEmb : UEmb _ 𝕄) (Ht t k j) := by unfold Ht; infer_instance
instance Ct_storable : BI.Storable (upEmb : UEmb _ 𝕄) (Ct t c k) := by unfold Ct; infer_instance
instance At_storable (j : Fin 2) : BI.Storable (upEmb : UEmb _ 𝕄) (At t k j) := by unfold At; infer_instance
instance Bt_storable (j : Fin 2) : BI.Storable (upEmb : UEmb _ 𝕄) (Bt t k j) := by unfold Bt; infer_instance
instance extra_storable (P : sProp 𝕄) [BI.Storable (upEmb : UEmb _ 𝕄) P] : BI.Storable (upEmb : UEmb _ 𝕄) (extra k P) := by
  unfold extra; split <;> infer_instance
instance pay_storable (i : CI) (b : Bool) : BI.Storable (upEmb : UEmb _ 𝕄) (pay xs ws d i b) := by
  unfold pay; split
  · unfold barPay; infer_instance
  · unfold sendPay; split <;> infer_instance
  · unfold recvPay; split <;> infer_instance
end Storable

/-! ## The schedule -/

/-- One round: a barrier has a duty for each neighbour, every other semaphore has one duty. -/
def Rd : Rounds.Schedule (GSem nD τ sig) Bool 𝕄 where
  duties g r := if r = 0 ∧ g.1.2 = .tc then (match decode g.2 with | some none => Finset.univ | some (some _) => {false} | none => ∅) else ∅
  amount g _ _ := match decode g.2 with | some i => amt i | none => 1
  payload g _ b := match decode g.2 with | some i => pay xs ws g.1.1 i b | none => iprop(emp)
  amount_pos g r b _ := by
    show 0 < (match decode g.2 with | some i => amt i | none => 1)
    rcases decode g.2 with _ | _ | ⟨s, x⟩
    · exact Nat.one_pos
    · exact Nat.one_pos
    · exact nX_pos _

instance Rd_storable (g : GSem nD τ sig) (r : ℕ) (b : Bool) : BI.Storable (upEmb : UEmb _ 𝕄) ((Rd xs ws).payload g r b) := by
  show BI.Storable upEmb (match decode g.2 with | some i => pay xs ws g.1.1 i b | none => iprop(emp))
  split <;> infer_instance

theorem duties_bar (d : Dev nD) : (Rd xs ws).duties (bar d) 0 = Finset.univ := by
  dsimp only [Rd]; rw [if_pos ⟨rfl, rfl⟩, decode_csem]
theorem duties_dma (d : Dev nD) (y : Bool × Xfer) : (Rd xs ws).duties (cell d (some y)) 0 = {false} := by
  dsimp only [Rd]; rw [if_pos ⟨rfl, rfl⟩, decode_csem]
theorem duties_later (g : GSem nD τ sig) (r : ℕ) (hr : 1 ≤ r) : (Rd xs ws).duties g r = ∅ := by
  dsimp only [Rd]; exact if_neg fun h => by omega
theorem amount_cell (d : Dev nD) (i : CI) (r : ℕ) (b : Bool) : (Rd xs ws).amount (cell d i) r b = amt i := by
  dsimp only [Rd]; rw [decode_csem]
theorem payload_cell (d : Dev nD) (i : CI) (r : ℕ) (b : Bool) : (Rd xs ws).payload (cell d i) r b = pay xs ws d i b := by
  dsimp only [Rd]; rw [decode_csem]
theorem expect_bar (d : Dev nD) : (Rd xs ws).expect (bar d) 0 = 2 := by
  unfold Schedule.expect Schedule.amountOf
  rw [duties_bar, Finset.sum_congr rfl fun b _ => amount_cell xs ws d none 0 b]; rfl
theorem expect_dma (d : Dev nD) (y : Bool × Xfer) : (Rd xs ws).expect (cell d (some y)) 0 = nX y.2.2.1 := by
  unfold Schedule.expect Schedule.amountOf
  rw [duties_dma, Finset.sum_singleton, amount_cell]
theorem rest_bar (d : Dev nD) : bigSep ((Rd xs ws).duties (bar d) 0 \ ∅) (fun b => (Rd xs ws).payload (bar d) 0 b) = iprop(barPay d true ∗ barPay d false) := by
  rw [Finset.sdiff_empty, duties_bar, bigSep_univ_eq_bigSepL [true, false] (by decide) (by decide), bigSepL_cons_cons, bigSepL_singleton, payload_cell, payload_cell]
  rfl
theorem rest_dma (d : Dev nD) (y : Bool × Xfer) :
    bigSep ((Rd xs ws).duties (cell d (some y)) 0 \ ∅) (fun b => (Rd xs ws).payload (cell d (some y)) 0 b) = pay xs ws d (some y) false := by
  rw [Finset.sdiff_empty, duties_dma, bigSep_singleton, payload_cell]

/-! ## What is owed -/

/-- What device `d` owes for the transfers of a list, the first of the list to be paid first. -/
def owedL (d : Dev nD) : List Xfer → CellTallies nD τ sig Unit
  | [] => 0
  | x :: l => owedL d l + tallyAt (rcv (nb x.2.2 d) x) () (nX x.2.1)

/-- All the transfers of a device in the order in which it starts them. -/
def sched : List Xfer :=
  [0, 1].flatMap (fun k : Fin 4 => [(k, 0, true), (k, 0, false)]) ++ [2, 3].flatMap (fun k : Fin 4 => [(k, 0, true), (k, 0, false)])
    ++ [0, 2, 1, 3].flatMap (fun k : Fin 4 => [(k, 1, cw k), (k, 1, !(cw k))]) ++ [0, 2, 1, 3].flatMap (fun k : Fin 4 => [(k, 2, false), (k, 2, true)])
    ++ [0, 2, 1, 3].flatMap (fun k : Fin 4 => [(k, 3, false), (k, 3, true)])

/-- What device `d` owes at the start. -/
def owed₁ (d : Dev nD) : CellTallies nD τ sig Unit := owedL d sched + tallyAt (bar (rt d)) () 1
def owed₀ (d : Dev nD) : CellTallies nD τ sig Unit := owed₁ d + tallyAt (bar (lf d)) () 1

def L (g : GSem nD τ sig) : Finset Unit := if g.1.2 = .tc then {()} else ∅
/-- The order of the waits: the sends and the staging, the barrier, then the receives step by step. -/
abbrev lvl : CI → ℕ
  | none => 1
  | some (true, _) => 0
  | some (false, x) => 2 + x.2.1.val
def lv (g : GSem nD τ sig) (_ : Unit) : ℕ := match decode g.2 with | some i => lvl i | none => 0

theorem L_of_ne (g : GSem nD τ sig) (h : g.1.2 ≠ .tc) : L g = ∅ := if_neg h
theorem L_tc (d : Dev nD) (sm : SemLoc sig) : L ((d : Thread nD τ), sm) = {()} := if_pos rfl
theorem lv_cell (d : Dev nD) (i : CI) : lv (cell d i) () = lvl i := by unfold lv; rw [decode_csem]

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owedL_pos (d : Dev nD) (l : List Xfer) {g : GSem nD τ sig} {u : Unit} (h : 0 < owedL d l g u) : ∃ x ∈ l, g = rcv (nb x.2.2 d) x := by
  induction l with
  | nil => exact absurd h (Nat.lt_irrefl 0)
  | cons x l ih =>
    unfold owedL at h
    rw [Pi.add_apply, Finsupp.add_apply] at h
    rcases Nat.eq_zero_or_pos (owedL d l g u) with hz | hp
    · rw [hz, Nat.zero_add] at h
      exact ⟨x, List.mem_cons_self, tallyAt_pos h⟩
    · obtain ⟨y, hy, e⟩ := ih hp
      exact ⟨y, List.mem_cons_of_mem _ hy, e⟩

theorem owed₀_pos (d : Dev nD) {g : GSem nD τ sig} {u : Unit} (h : 0 < owed₀ d g u) : ∃ (t : Dev nD) (i : CI), g = cell t i ∧ 0 < lvl i := by
  unfold owed₀ owed₁ at h
  rw [Pi.add_apply, Finsupp.add_apply, Pi.add_apply, Finsupp.add_apply] at h
  rcases Nat.eq_zero_or_pos (owedL d sched g u) with hz | hp
  · rcases Nat.eq_zero_or_pos ((tallyAt (bar (rt d)) () 1 : CellTallies nD τ sig Unit) g u) with hz' | hp'
    · rw [hz, hz', Nat.add_zero, Nat.zero_add] at h
      exact ⟨lf d, none, tallyAt_pos h, Nat.one_pos⟩
    · exact ⟨rt d, none, tallyAt_pos hp', Nat.one_pos⟩
  · obtain ⟨x, _, e⟩ := owedL_pos d sched hp
    exact ⟨_, _, e, by show 0 < 2 + _; omega⟩

/-- A device may wait on a semaphore that comes before everything it owes. -/
theorem mayWait_of (d : Dev nD) (sm : SemLoc sig) (n : ℕ) (O : CellTallies nD τ sig Unit) (hs : lv ((d : Thread nD τ), sm) () ≤ n)
    (hO : ∀ (g : GSem nD τ sig) (u : Unit), 0 < O g u → ∃ (t : Dev nD) (i : CI), g = cell t i ∧ n < lvl i) :
    (levAts L lv : sProp 𝕄) ⊢ MayWait (d : Thread nD τ) sm () O :=
  MayOwe.of_cut (L := L) (lev := lv) n (fun p hp => by rw [Finset.mem_singleton.mp hp, L_tc]; exact Finset.mem_singleton_self _)
    (fun g u hg => by obtain ⟨t, i, rfl, _⟩ := hO g u hg; rw [L_tc]; exact Finset.mem_singleton_self _)
    (fun p hp => by rw [Finset.mem_singleton.mp hp]; exact hs)
    (fun g u hg => by obtain ⟨t, i, rfl, h⟩ := hO g u hg; cases u; rw [lv_cell]; exact h)

/-- Everything in the list is of a later step than the semaphore. -/
abbrev Before (i : CI) (l : List Xfer) : Prop := ∀ y ∈ l, lvl i < 2 + y.2.1.val

theorem mayWait (d : Dev nD) (i : CI) (l : List Xfer) (h : Before i l) : (levAts L lv : sProp 𝕄) ⊢ MayWait (d : Thread nD τ) (csem i) () (owedL d l) :=
  mayWait_of d (csem i) (lvl i) _ (by rw [lv_cell]) fun g u hg => by
    obtain ⟨x, hx, e⟩ := owedL_pos d l hg
    exact ⟨_, _, e, h x hx⟩

end Cert.Fused

end
-- ==== Proof.Ops.lean ====
/- What each operation of the kernel does: the transfers, the waits, the products, the sums and the activation. -/
module

public import proofs.«01_k».proof.Proof.Cells

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (ws : Dev nD → WBuf F)
variable (K : Dev nD × CI → ℕ)

/-! ## The shared records -/

/-- Every semaphore's invariant, that its round is open, and the order of the waits. -/
def Rec : sProp 𝕄 :=
  iprop((bigSep Finset.univ fun y : Dev nD × CI => cellInv ER (Rd xs ws) (K y) (cell y.1 y.2))
    ∗ (bigSep Finset.univ fun y : Dev nD × CI => reached ER (cell y.1 y.2) 0) ∗ levAts L lv)

instance Rec_persistent : BI.Persistent (Rec xs ws K) := by unfold Rec; infer_instance

theorem Rec_inv (d : Dev nD) (i : CI) : Rec xs ws K ⊢ cellInv ER (Rd xs ws) (K (d, i)) (cell d i) := by
  have h : (bigSep Finset.univ fun y : Dev nD × CI => (cellInv ER (Rd xs ws) (K y) (cell y.1 y.2) : sProp 𝕄)) ⊢ cellInv ER (Rd xs ws) (K (d, i)) (cell d i) :=
    bigSep_elim (Finset.mem_univ (d, i))
  unfold Rec
  iintro ⟨#HI, -, -⟩
  iapply h; iexact HI
theorem Rec_reached (d : Dev nD) (i : CI) : Rec xs ws K ⊢ reached ER (cell d i) 0 := by
  have h : (bigSep Finset.univ fun y : Dev nD × CI => (reached ER (cell y.1 y.2) 0 : sProp 𝕄)) ⊢ reached ER (cell d i) 0 :=
    bigSep_elim (Finset.mem_univ (d, i))
  unfold Rec
  iintro ⟨-, #HI, -⟩
  iapply h; iexact HI
theorem Rec_lev : Rec xs ws K ⊢ levAts L lv := by
  unfold Rec
  iintro ⟨-, -, #HI⟩
  iexact HI

/-- What device `d` still owes. -/
def Ow (d : Dev nD) (l : List Xfer) : sProp 𝕄 := iprop(∃ W, owes (d : Thread nD τ) (owedL d l) W)
/-- The right to make a transfer. -/
def tok (d : Dev nD) (x : Xfer) : sProp 𝕄 := iprop(dutyTok ER (snt d x) 0 false ∗ dutyTok ER (rcv (nb x.2.2 d) x) 0 false)
/-- The right to wait for a transfer's send or receive side once its units are due. -/
def wtr (d : Dev nD) (y : Bool × Xfer) : sProp 𝕄 := iprop(atPos ER (cell d (some y)) 0 ∅ 0 ∗ cred (tallyAt (cell d (some y)) () (nX y.2.2.1)))

/-- The rest of a program after an action: what the action leaves is there. -/
theorem step {d : Dev nD} {a : Act F} {l : List (Act F)} {P Q : sProp 𝕄} {Φ : PUnit → sProp 𝕄}
    (h : iprop(Rec xs ws K ∗ P) ⊢ wp frame (wpE (defs₀ (F := F)) 𝒱₀ (d : Thread nD τ) none) Set.univ a fun _ => Q) :
    iprop(Rec xs ws K ∗ P) ⊢ iprop((Q -∗ wp frame (wpE (defs₀ (F := F)) 𝒱₀ (d : Thread nD τ) none) Set.univ (run l) Φ)
      -∗ wp frame (wpE (defs₀ (F := F)) 𝒱₀ (d : Thread nD τ) none) Set.univ (run (a :: l)) Φ) := by
  have hw := wp_wand frame (wpE (defs₀ (F := F)) 𝒱₀ (d : Thread nD τ) none) Set.univ (p := a) (Q := fun _ => Q)
    (Q' := fun _ => wp frame (wpE (defs₀ (F := F)) 𝒱₀ (d : Thread nD τ) none) Set.univ (run l) Φ)
  show _ ⊢ iprop(_ -∗ wp frame (wpE (defs₀ (F := F)) 𝒱₀ (d : Thread nD τ) none) Set.univ (a >>= fun _ => run l) Φ)
  rw [wp_bind]
  iintro ⟨#HR, HP⟩ Hq
  iapply hw $$ [HP]
  · iapply h
    isplitr; · iexact HR
    iexact HP
  iintro %u Hu
  iapply Hq; iexact Hu

/-! ## Transfers and waits -/

section Comm
variable (d : Dev nD) (x : Xfer) {s : Shape} (src dst : Memref sig .tc .vmem s .f32)
  (hsc : (dst : Memref sig (Dev.tc (nb x.2.2 d) : Thread nD τ).2.kind .vmem s .f32).view.ref.isScScratch = false)

/-- A transfer whose source goes with it. -/
theorem snd_land (hN : dst.view.amount (csem (some (false, x))) = nX x.2.1) {q : PosShare TreeShare}
    {fs : Buf (Elt F) (src.view.loc (d : Thread nD τ))} {fd : Buf (Elt F) (dst.view.loc (nb x.2.2 d : Thread nD τ))} {G : sProp 𝕄} (l : List Xfer)
    (h₁ : (emp : sProp 𝕄) ⊢ sendPay xs ws d x)
    (h₂ : iprop(((dst.view.loc (nb x.2.2 d : Thread nD τ) ↦[dst.view.set]{fullShare} (dst.view.write (Elt F) fd (src.view.read (Elt F) fs) Finset.univ)) ∗ G)
        ∗ (src.view.loc (d : Thread nD τ) ↦[src.view.set]{q} fs)) ⊢ recvPay xs ws (nb x.2.2 d) x) :
    iprop(Rec xs ws K ∗ (src.view.loc (d : Thread nD τ) ↦[src.view.set]{q} fs)
        ∗ ((dst.view.loc (nb x.2.2 d : Thread nD τ) ↦[dst.view.set]{fullShare} fd) ∗ G) ∗ tok d x ∗ Ow d (x :: l))
      ⊢ wp frame (wpE (defs₀ (F := F)) 𝒱₀ (d : Thread nD τ) none) Set.univ
          (snd src dst (nb x.2.2 d) (sS x.1 (sx x.2.1 x.2.2)) (rS x.1 (sx x.2.1 x.2.2)) hsc)
          fun _ => iprop(cred (tallyAt (snt d x) () (nX x.2.1)) ∗ Ow d l) := by
  unfold tok Ow
  iintro ⟨#HR, Hs, Hd, ⟨Ht, Ht'⟩, ⟨%W, Ho⟩⟩
  iapply (Rounds.wp_send_landing_pointsTo_with 𝒱₀ ER (Rd xs ws) (d : Thread nD τ) none (κ₁ := K (d, some (true, x))) (κ₂ := K (nb x.2.2 d, some (false, x)))
    (r₁ := 0) (r₂ := 0) (d₁ := false) (d₂ := false) (q := q) (fs := fs) (fd := fd) (F := G)
    (by rw [duties_dma]; exact Finset.mem_singleton_self _)
    (by rw [duties_dma]; exact Finset.mem_singleton_self _)
    () () (nX x.2.1) hN (amount_cell xs ws d (some (true, x)) 0 false) (amount_cell xs ws (nb x.2.2 d) (some (false, x)) 0 false) (owedL d l) rfl (W := W)
    (h₁.trans (Entails.of_eq (payload_cell xs ws d (some (true, x)) 0 false).symm))
    (h₂.trans (Entails.of_eq (payload_cell xs ws (nb x.2.2 d) (some (false, x)) 0 false).symm))) $$ [Hs Hd Ht Ht' Ho]
  · isplitr; · iapply (Rec_inv xs ws K d (some (true, x))); iexact HR
    isplitr; · iapply (Rec_inv xs ws K (nb x.2.2 d) (some (false, x))); iexact HR
    isplitl [Hs]; · iexact Hs
    isplitl [Hd]; · iexact Hd
    isplitl [Ho]; · iexact Ho
    isplitl [Ht]; · iexact Ht
    isplitr; · iapply (Rec_reached xs ws K d (some (true, x))); iexact HR
    isplitl [Ht']; · iexact Ht'
    iapply (Rec_reached xs ws K (nb x.2.2 d) (some (false, x))); iexact HR
  iintro ⟨Hc, Ho⟩
  rw [wp_ret]; imodintro
  isplitl [Hc]; · iexact Hc
  iexists W; iexact Ho

/-- A transfer whose source comes back when it is sent. -/
theorem snd_keep (hN : dst.view.amount (csem (some (false, x))) = nX x.2.1) {q : PosShare TreeShare}
    {fs : Buf (Elt F) (src.view.loc (d : Thread nD τ))} {fd : Buf (Elt F) (dst.view.loc (nb x.2.2 d : Thread nD τ))} {G : sProp 𝕄} (l : List Xfer)
    (h₁ : (src.view.loc (d : Thread nD τ) ↦[src.view.set]{q} fs) ⊢ sendPay xs ws d x)
    (h₂ : iprop((dst.view.loc (nb x.2.2 d : Thread nD τ) ↦[dst.view.set]{fullShare} (dst.view.write (Elt F) fd (src.view.read (Elt F) fs) Finset.univ)) ∗ G)
        ⊢ recvPay xs ws (nb x.2.2 d) x) :
    iprop(Rec xs ws K ∗ (src.view.loc (d : Thread nD τ) ↦[src.view.set]{q} fs)
        ∗ ((dst.view.loc (nb x.2.2 d : Thread nD τ) ↦[dst.view.set]{fullShare} fd) ∗ G) ∗ tok d x ∗ Ow d (x :: l))
      ⊢ wp frame (wpE (defs₀ (F := F)) 𝒱₀ (d : Thread nD τ) none) Set.univ
          (snd src dst (nb x.2.2 d) (sS x.1 (sx x.2.1 x.2.2)) (rS x.1 (sx x.2.1 x.2.2)) hsc)
          fun _ => iprop(cred (tallyAt (snt d x) () (nX x.2.1)) ∗ Ow d l) := by
  unfold tok Ow
  iintro ⟨#HR, Hs, Hd, ⟨Ht, Ht'⟩, ⟨%W, Ho⟩⟩
  iapply (Rounds.wp_send_pointsTo_with 𝒱₀ ER (Rd xs ws) (d : Thread nD τ) none (κ₁ := K (d, some (true, x))) (κ₂ := K (nb x.2.2 d, some (false, x)))
    (r₁ := 0) (r₂ := 0) (d₁ := false) (d₂ := false) (q := q) (fs := fs) (fd := fd) (F := G)
    (by rw [duties_dma]; exact Finset.mem_singleton_self _)
    (by rw [duties_dma]; exact Finset.mem_singleton_self _)
    () () (nX x.2.1) hN (amount_cell xs ws d (some (true, x)) 0 false) (amount_cell xs ws (nb x.2.2 d) (some (false, x)) 0 false) (owedL d l) rfl (W := W)
    (h₁.trans (Entails.of_eq (payload_cell xs ws d (some (true, x)) 0 false).symm))
    (h₂.trans (Entails.of_eq (payload_cell xs ws (nb x.2.2 d) (some (false, x)) 0 false).symm))) $$ [Hs Hd Ht Ht' Ho]
  · isplitr; · iapply (Rec_inv xs ws K d (some (true, x))); iexact HR
    isplitr; · iapply (Rec_inv xs ws K (nb x.2.2 d) (some (false, x))); iexact HR
    isplitl [Hs]; · iexact Hs
    isplitl [Hd]; · iexact Hd
    isplitl [Ho]; · iexact Ho
    isplitl [Ht]; · iexact Ht
    isplitr; · iapply (Rec_reached xs ws K d (some (true, x))); iexact HR
    isplitl [Ht']; · iexact Ht'
    iapply (Rec_reached xs ws K (nb x.2.2 d) (some (false, x))); iexact HR
  iintro ⟨Hc, Ho⟩
  rw [wp_ret]; imodintro
  isplitl [Hc]; · iexact Hc
  iexists W; iexact Ho
end Comm

/-- A wait: what the transfer hands over is there, and the semaphore is done with. -/
theorem wt_any (d : Dev nD) (y : Bool × Xfer) {s : Shape} (q : DmaSem sig) (hq : csem (some y) = .dma q) (src dst : Memref sig .tc .vmem s .f32)
    (hN : dst.view.dmaCredit = nX y.2.2.1) (l : List Xfer) (hl : Before (some y) l) :
    iprop(Rec xs ws K ∗ wtr d y ∗ Ow d l)
      ⊢ wp frame (wpE (defs₀ (F := F)) 𝒱₀ (d : Thread nD τ) none) Set.univ (wt q src dst)
          fun _ => iprop(Ow d l ∗ semVal (cell d (some y)) 0 ∗ pay xs ws d (some y) false) := by
  unfold wtr Ow
  iintro ⟨#HR, ⟨Ha, Hc⟩, ⟨%W, Ho⟩⟩
  rw [← hN]
  unfold cell
  rw [hq]
  iapply (Rounds.wp_wait_rest_token 𝒱₀ ER (Rd xs ws) (d : Thread nD τ) none (κ := K (d, some y))
      (wpE_waitDma2_eq 𝒱₀ (d : Thread nD τ) none Set.univ) (Set.mem_univ _) () (O := owedL d l) (W := W) (R := 0) (m := 0) (T := ∅)
      (by rw [Nat.zero_add, ← hq, expect_dma, hN])) $$ [Hc Ho Ha]
  · isplitr; · rw [← hq]; iapply (Rec_inv xs ws K d (some y)); iexact HR
    isplitl [Hc]; · iexact Hc
    isplitl [Ho]; · iexact Ho
    isplitr; · rw [← hq]; iapply (mayWait d (some y) l hl); iapply (Rec_lev xs ws K); iexact HR
    iexact Ha
  iintro ⟨Ho, Ha, -, Hp⟩
  rw [← hq]
  ihave Hp := (Entails.of_eq (rest_dma xs ws d y)) $$ Hp
  imod (Rounds.cell_close ER (Rd xs ws) (Set.mem_univ (K (d, some y))) (fun h => h) (R := 0 + 1) (duties_later xs ws (cell d (some y)))) $$ [Ha] with Hz
  · isplitr; · iapply (Rec_inv xs ws K d (some y)); iexact HR
    iexact Ha
  rw [wp_ret]; imodintro
  isplitl [Ho]; · iexists _; iexact Ho
  isplitl [Hz]; · iexact Hz
  iexact Hp

/-! ## Products, sums and the activation -/

section Compute
variable (k : Fin 4) (b : Bool) (d c : Dev nD)

/-- The device's blocks of the two inputs. -/
def inT : sProp 𝕄 := iprop((((d : Thread nD τ).loc cc0_stg0_0) ↦{fullShare} xs d) ∗ (((d : Thread nD τ).loc cc0_stg1_0) ↦{fullShare} ws d))

theorem gemmH_spec (j : Fin 2) (hc : ¬ (c = d ∨ c = op d)) (f : OBuf F) :
    iprop(Rec xs ws K ∗ inT xs ws d ∗ wT d c j f)
      ⊢ wp frame (wpE (defs₀ (F := F)) 𝒱₀ (d : Thread nD τ) none) Set.univ (gemmH c j) fun _ => iprop(inT xs ws d ∗ wT d c j (pG xs ws d)) := by
  rw [← wT_congr (t := d) fun i hi => wide_pG xs ws d c j hc f i hi]
  unfold gemmH inT
  simp only [Prog.lift, Prog.bind_op, Prog.bind_ret, Prog.pure_eq_ret]
  iintro ⟨-, ⟨Hx, Hw⟩, Ho⟩
  iapply (wp_load 𝒱₀ (d : Thread nD τ) none Set.univ (m := xM) (Finset.subset_univ _)) $$ Hx; iintro Hx
  iapply (wp_load 𝒱₀ (d : Thread nD τ) none Set.univ (m := wM) (Finset.subset_univ _)) $$ Hw; iintro Hw
  unfold wT
  iapply (wp_load_rect 𝒱₀ (d : Thread nD τ) none Set.univ (m := oM) (Finset.Subset.refl _)) $$ Ho; iintro Ho
  iapply (wp_store 𝒱₀ (d : Thread nD τ) none Set.univ (m := oM) (r := wideR c j) (Mk := Finset.univ) (View.setOn_subset_set _ _)) $$ Ho; iintro Ho
  rw [wp_ret]; imodintro
  isplitl [Hx Hw]
  · isplitl [Hx] <;> iassumption
  iexact Ho

theorem gemmF_spec (hc : c = d ∨ c = op d) (f : OBuf F) :
    iprop(Rec xs ws K ∗ inT xs ws d ∗ fT d c f)
      ⊢ wp frame (wpE (defs₀ (F := F)) 𝒱₀ (d : Thread nD τ) none) Set.univ (gemmF c) fun _ => iprop(inT xs ws d ∗ fT d c (pG xs ws d)) := by
  rw [← fT_congr (t := d) fun i hi => full_pG xs ws d c hc f i hi]
  unfold gemmF inT
  simp only [Prog.lift, Prog.bind_op, Prog.bind_ret, Prog.pure_eq_ret]
  iintro ⟨-, ⟨Hx, Hw⟩, Ho⟩
  iapply (wp_load 𝒱₀ (d : Thread nD τ) none Set.univ (m := xM) (Finset.subset_univ _)) $$ Hx; iintro Hx
  iapply (wp_load 𝒱₀ (d : Thread nD τ) none Set.univ (m := wM) (Finset.subset_univ _)) $$ Hw; iintro Hw
  unfold fT
  iapply (wp_load_rect 𝒱₀ (d : Thread nD τ) none Set.univ (m := oM) (Finset.Subset.refl _)) $$ Ho; iintro Ho
  iapply (wp_store 𝒱₀ (d : Thread nD τ) none Set.univ (m := oM) (r := fullR c) (Mk := Finset.univ) (View.setOn_subset_set _ _)) $$ Ho; iintro Ho
  rw [wp_ret]; imodintro
  isplitl [Hx Hw]
  · isplitl [Hx] <;> iassumption
  iexact Ho

/-- The landed half is added. -/
theorem add_spec :
    iprop(Rec xs ws K ∗ hT d (tgt k b d) (hx k b) k (pG xs ws d) ∗ aT d k (sl b) (pA xs ws k b (nb (!b) d)))
      ⊢ wp frame (wpE (defs₀ (F := F)) 𝒱₀ (d : Thread nD τ) none) Set.univ (add k b d)
          fun _ => iprop(hT d (tgt k b d) (hx k b) k (pS xs ws k b d) ∗ aT d k (sl b) (pA xs ws k b (nb (!b) d))) := by
  unfold add hT aT
  simp only [Prog.lift, Prog.bind_op, Prog.bind_ret, Prog.pure_eq_ret]
  iintro ⟨-, Ho, Ha⟩
  iapply (wp_load_rect 𝒱₀ (d : Thread nD τ) none Set.univ (m := oM) (Finset.Subset.refl _)) $$ Ho; iintro Ho
  iapply (wp_load_rect 𝒱₀ (d : Thread nD τ) none Set.univ (m := aM) (Finset.Subset.trans (Finset.Subset.refl _) (Finset.Subset.antisymm_iff.mp (View.set_reshape _ _)).2)) $$ Ha; iintro Ha
  iapply (wp_load_rect 𝒱₀ (d : Thread nD τ) none Set.univ (m := oM) (Finset.Subset.refl _)) $$ Ho; iintro Ho
  iapply (wp_store 𝒱₀ (d : Thread nD τ) none Set.univ (m := oM) (r := halfR (tgt k b d) (hx k b) k) (Mk := Finset.univ) (View.setOn_subset_set _ _)) $$ Ho; iintro Ho
  rw [wp_ret]; imodintro
  isplitl [Ho]; · iexact Ho
  iexact Ha

/-- The two landed chunks are added and the activation applied. -/
theorem gel_spec :
    iprop(Rec xs ws K ∗ cT d (own k d) k fullShare (pG xs ws d) ∗ bT d k 0 (pB xs ws k false (nb true d)) ∗ bT d k 1 (pB xs ws k true (nb false d)))
      ⊢ wp frame (wpE (defs₀ (F := F)) 𝒱₀ (d : Thread nD τ) none) Set.univ (gel k d)
          fun _ => iprop(cT d (own k d) k fullShare (pZ xs ws) ∗ bT d k 0 (pB xs ws k false (nb true d)) ∗ bT d k 1 (pB xs ws k true (nb false d))) := by
  rw [← cT_congr (t := d) fun i hi => pZ_chunk xs ws k d (pG xs ws d) i hi]
  unfold gel cT bT
  simp only [Prog.lift, Prog.bind_op, Prog.bind_ret, Prog.pure_eq_ret]
  iintro ⟨-, Ho, Ha, Hb⟩
  iapply (wp_load_rect 𝒱₀ (d : Thread nD τ) none Set.univ (m := oM) (Finset.Subset.refl _)) $$ Ho; iintro Ho
  iapply (wp_load_rect 𝒱₀ (d : Thread nD τ) none Set.univ (m := bM) (Finset.Subset.trans (Finset.Subset.refl _) (Finset.Subset.antisymm_iff.mp (View.set_reshape _ _)).2)) $$ Ha; iintro Ha
  iapply (wp_load_rect 𝒱₀ (d : Thread nD τ) none Set.univ (m := bM) (Finset.Subset.trans (Finset.Subset.refl _) (Finset.Subset.antisymm_iff.mp (View.set_reshape _ _)).2)) $$ Hb; iintro Hb
  iapply (wp_load_rect 𝒱₀ (d : Thread nD τ) none Set.univ (m := oM) (Finset.Subset.refl _)) $$ Ho; iintro Ho
  iapply (wp_store 𝒱₀ (d : Thread nD τ) none Set.univ (m := oM) (r := chunkR (own k d) k) (Mk := Finset.univ) (View.setOn_subset_set _ _)) $$ Ho; iintro Ho
  rw [wp_ret]; imodintro
  isplitl [Ho]; · iexact Ho
  isplitl [Ha]; · iexact Ha
  iexact Hb
end Compute

end Cert.Fused

end
-- ==== Proof.Moves.lean ====
/- The four transfers of each stream and direction, and how to run a list of operations stream by stream. -/
module

public import proofs.«01_k».proof.Proof.Ops
public import Idealize.ShloMosaic.Lib.Pipeline.BigSepL

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (ws : Dev nD → WBuf F)
variable (K : Dev nD × CI → ℕ)

/-! ## Which chunk is which -/

theorem nb_back (b : Bool) (d : Dev nD) : nb (!b) (nb b d) = d := by revert b d; decide +kernel
theorem nb_cw (k : Fin 4) (d : Dev nD) : nb (cw k) d = op (own k d) := by revert k d; decide +kernel
theorem tgt_eq (k : Fin 4) (b : Bool) (d : Dev nD) : tgt k b d = own k (nb b d) := by revert k b d; decide +kernel
theorem nxo_eq (k : Fin 4) (b : Bool) (d : Dev nD) : nxo k b d = op (own k (nb b d)) := by revert k b d; decide +kernel
theorem own_back (k : Fin 4) (b : Bool) (d : Dev nD) : own k (nb (!b) d) = nxo k b d := by revert k b d; decide +kernel
theorem op_nb (b : Bool) (d : Dev nD) : op (nb b d) = nb (!b) d := by revert b d; decide +kernel
theorem nb_nb (b : Bool) (d : Dev nD) : nb b (nb b d) = op d := by revert b d; decide +kernel
theorem hx_ne (k : Fin 4) (b : Bool) : hx k (!b) ≠ hx k b := by revert k b; decide +kernel

/-! ## The transfers -/

section
variable (k : Fin 4) (b : Bool) (d : Dev nD) (l : List Xfer)

theorem snd1_spec :
    iprop(Rec xs ws K ∗ hT d (op (own k d)) (hx k b) k (pG xs ws d) ∗ At (nb b d) k (sl b) ∗ tok d (k, 0, b) ∗ Ow d ((k, 0, b) :: l))
      ⊢ wp frame (wpE (defs₀ (F := F)) 𝒱₀ (d : Thread nD τ) none) Set.univ (snd1 k b d) fun _ => iprop(cred (tallyAt (snt d (k, 0, b)) () (nX 0)) ∗ Ow d l) := by
  unfold At
  iintro ⟨#HR, Hs, ⟨%fd, Hd⟩, Ht, Ho⟩
  iapply (snd_land xs ws K d (k, 0, b) (src1 k b d) (slotA k (sl b)) rfl rfl (q := fullShare) (fs := pG xs ws d) (fd := fd) (G := iprop(emp)) l
    (Entails.of_eq rfl) (by
      unfold recvPay Ht
      dsimp only
      rw [nb_back, ← nb_cw]
      iintro ⟨⟨Hd, -⟩, Hs⟩
      isplitl [Hd]
      · unfold aT pA
        iapply (Entails.of_eq (pointsTo_congr fun i hi => write_any (slotA k (sl b)).view fd (fun _ => default) _ i hi)); iexact Hd
      · iexists (pG xs ws d); unfold hT; iexact Hs)) $$ [Hs Hd Ht Ho]
  isplitr; · iexact HR
  isplitl [Hs]; · unfold hT; rw [← nb_cw]; iexact Hs
  isplitl [Hd]
  · isplitl; · unfold aT; iexact Hd
    iempintro
  isplitl [Ht]; · iexact Ht
  iexact Ho

theorem snd2_spec :
    iprop(Rec xs ws K ∗ cT d (tgt k b d) k fullShare (pS xs ws k b d) ∗ (Bt (nb b d) k (sl b) ∗ extra k (Ht (nb (!b) d) k (hx k b))) ∗ tok d (k, 1, b) ∗ Ow d ((k, 1, b) :: l))
      ⊢ wp frame (wpE (defs₀ (F := F)) 𝒱₀ (d : Thread nD τ) none) Set.univ (snd2 k b d) fun _ => iprop(cred (tallyAt (snt d (k, 1, b)) () (nX 1)) ∗ Ow d l) := by
  unfold Bt
  iintro ⟨#HR, Hs, ⟨⟨%fd, Hd⟩, He⟩, Ht, Ho⟩
  iapply (snd_land xs ws K d (k, 1, b) (src2 k b d) (slotB k (sl b)) rfl rfl (q := fullShare) (fs := pS xs ws k b d) (fd := fd) (G := extra k (Ht (nb (!b) d) k (hx k b))) l
    (Entails.of_eq rfl) (by
      unfold recvPay Ct
      dsimp only
      rw [nb_back, ← tgt_eq, op_nb]
      iintro ⟨⟨Hd, He⟩, Hs⟩
      isplitl [Hd]
      · unfold bT pB
        iapply (Entails.of_eq (pointsTo_congr fun i hi => write_any (slotB k (sl b)).view fd (fun _ => default) _ i hi)); iexact Hd
      isplitl [Hs]
      · iexists (pS xs ws k b d); unfold cT; iexact Hs
      · iexact He)) $$ [Hs Hd He Ht Ho]
  isplitr; · iexact HR
  isplitl [Hs]; · unfold cT; iexact Hs
  isplitl [Hd He]
  · isplitl [Hd]; · unfold bT; iexact Hd
    iexact He
  isplitl [Ht]; · iexact Ht
  iexact Ho

theorem snd3_spec :
    iprop(Rec xs ws K ∗ cT d (own k d) k (shr b) (pZ xs ws) ∗ (Ct (nb b d) (own k d) k ∗ extra k (Ht (op d) k (hx k b))) ∗ tok d (k, 2, b) ∗ Ow d ((k, 2, b) :: l))
      ⊢ wp frame (wpE (defs₀ (F := F)) 𝒱₀ (d : Thread nD τ) none) Set.univ (snd3 k b d) fun _ => iprop(cred (tallyAt (snt d (k, 2, b)) () (nX 2)) ∗ Ow d l) := by
  unfold Ct
  iintro ⟨#HR, Hs, ⟨⟨%fd, Hd⟩, He⟩, Ht, Ho⟩
  iapply (snd_keep xs ws K d (k, 2, b) (src3 k d) (src3 k d) rfl rfl (q := shr b) (fs := pZ xs ws) (fd := fd) (G := extra k (Ht (op d) k (hx k b))) l
    (by unfold sendPay cT; exact BI.Entails.refl _) (by
      unfold recvPay
      dsimp only
      rw [nb_back, nb_nb]
      iintro ⟨Hd, He⟩
      isplitl [Hd]
      · unfold cT
        iapply (Entails.of_eq (pointsTo_congr fun i hi => write_same (src3 k d).view fd (pZ xs ws) i hi)); iexact Hd
      · iexact He)) $$ [Hs Hd He Ht Ho]
  isplitr; · iexact HR
  isplitl [Hs]; · unfold cT; iexact Hs
  isplitl [Hd He]
  · isplitl [Hd]; · unfold cT; iexact Hd
    iexact He
  isplitl [Ht]; · iexact Ht
  iexact Ho

theorem snd4_spec :
    iprop(Rec xs ws K ∗ hT d (nxo k b d) (sl b) k (pZ xs ws) ∗ Ht (nb b d) k (sl b) ∗ tok d (k, 3, b) ∗ Ow d ((k, 3, b) :: l))
      ⊢ wp frame (wpE (defs₀ (F := F)) 𝒱₀ (d : Thread nD τ) none) Set.univ (snd4 k b d) fun _ => iprop(cred (tallyAt (snt d (k, 3, b)) () (nX 3)) ∗ Ow d l) := by
  unfold Ht
  rw [← nxo_eq]
  iintro ⟨#HR, Hs, ⟨%fd, Hd⟩, Ht, Ho⟩
  iapply (snd_keep xs ws K d (k, 3, b) (src4 k b d) (src4 k b d) rfl rfl (q := fullShare) (fs := pZ xs ws) (fd := fd) (G := iprop(emp)) l
    (by unfold sendPay hT; exact BI.Entails.refl _) (by
      unfold recvPay
      dsimp only
      rw [← nxo_eq]
      iintro ⟨Hd, -⟩
      unfold hT
      iapply (Entails.of_eq (pointsTo_congr fun i hi => write_same (src4 k b d).view fd (pZ xs ws) i hi)); iexact Hd)) $$ [Hs Hd Ht Ho]
  isplitr; · iexact HR
  isplitl [Hs]; · unfold hT; iexact Hs
  isplitl [Hd]
  · isplitl; · unfold hT; iexact Hd
    iempintro
  isplitl [Ht]; · iexact Ht
  iexact Ho

theorem rcv1_spec (hl : Before (some (false, (k, 0, b))) l) :
    iprop(Rec xs ws K ∗ wtr d (false, (k, 0, b)) ∗ Ow d l)
      ⊢ wp frame (wpE (defs₀ (F := F)) 𝒱₀ (d : Thread nD τ) none) Set.univ (rcv1 k b d) fun _ => iprop(Ow d l ∗ semVal (rcv d (k, 0, b)) 0 ∗ recvPay xs ws d (k, 0, b)) :=
  wt_any xs ws K d (false, (k, 0, b)) _ rfl (src1 k b d) (slotA k (sl b)) rfl l hl
theorem rcv2_spec (hl : Before (some (false, (k, 1, b))) l) :
    iprop(Rec xs ws K ∗ wtr d (false, (k, 1, b)) ∗ Ow d l)
      ⊢ wp frame (wpE (defs₀ (F := F)) 𝒱₀ (d : Thread nD τ) none) Set.univ (rcv2 k b d) fun _ => iprop(Ow d l ∗ semVal (rcv d (k, 1, b)) 0 ∗ recvPay xs ws d (k, 1, b)) :=
  wt_any xs ws K d (false, (k, 1, b)) _ rfl (src2 k b d) (slotB k (sl b)) rfl l hl
theorem rcv3_spec (hl : Before (some (false, (k, 2, b))) l) :
    iprop(Rec xs ws K ∗ wtr d (false, (k, 2, b)) ∗ Ow d l)
      ⊢ wp frame (wpE (defs₀ (F := F)) 𝒱₀ (d : Thread nD τ) none) Set.univ (rcv3 k b d) fun _ => iprop(Ow d l ∗ semVal (rcv d (k, 2, b)) 0 ∗ recvPay xs ws d (k, 2, b)) :=
  wt_any xs ws K d (false, (k, 2, b)) _ rfl (src3 k d) (src3 k d) rfl l hl
theorem rcv4_spec (hl : Before (some (false, (k, 3, b))) l) :
    iprop(Rec xs ws K ∗ wtr d (false, (k, 3, b)) ∗ Ow d l)
      ⊢ wp frame (wpE (defs₀ (F := F)) 𝒱₀ (d : Thread nD τ) none) Set.univ (rcv4 k b d) fun _ => iprop(Ow d l ∗ semVal (rcv d (k, 3, b)) 0 ∗ recvPay xs ws d (k, 3, b)) :=
  wt_any xs ws K d (false, (k, 3, b)) _ rfl (src4 k b d) (src4 k b d) rfl l hl
end

/-- The wait for the send side of a transfer. -/
def fin (d : Dev nD) : Xfer → Act F
  | (k, 0, b) => fin1 k b d
  | (k, 1, b) => fin2 k b d
  | (k, 2, b) => fin3 k b d
  | (k, 3, b) => fin4 k b d

theorem fin_spec (d : Dev nD) (x : Xfer) :
    iprop(Rec xs ws K ∗ wtr d (true, x) ∗ Ow d [])
      ⊢ wp frame (wpE (defs₀ (F := F)) 𝒱₀ (d : Thread nD τ) none) Set.univ (fin d x) fun _ => iprop(Ow d [] ∗ semVal (snt d x) 0 ∗ sendPay xs ws d x) := by
  have hl : Before (some (true, x)) [] := fun y hy => absurd hy List.not_mem_nil
  obtain ⟨k, p, b⟩ := x
  fin_cases p
  · exact wt_any xs ws K d (true, (k, 0, b)) _ rfl (slotA k (sl b)) (src1 k b d) rfl [] hl
  · exact wt_any xs ws K d (true, (k, 1, b)) _ rfl (slotB k (sl b)) (src2 k b d) rfl [] hl
  · exact wt_any xs ws K d (true, (k, 2, b)) _ rfl (src3 k d) (src3 k d) rfl [] hl
  · exact wt_any xs ws K d (true, (k, 3, b)) _ rfl (src4 k b d) (src4 k b d) rfl [] hl

/-! ## Lists of operations -/

/-- From `P` the operations of the list lead to `Q`, whatever follows them. -/
def Does (d : Dev nD) (P : sProp 𝕄) (l : List (Act F)) (Q : sProp 𝕄) : Prop :=
  ∀ (r : List (Act F)) (Φ : PUnit → sProp 𝕄), iprop(Rec xs ws K ∗ P)
    ⊢ iprop((Q -∗ wp frame (wpE (defs₀ (F := F)) 𝒱₀ (d : Thread nD τ) none) Set.univ (run r) Φ)
      -∗ wp frame (wpE (defs₀ (F := F)) 𝒱₀ (d : Thread nD τ) none) Set.univ (run (l ++ r)) Φ)

variable {xs ws K} {d : Dev nD}

theorem Does.one {a : Act F} {P Q : sProp 𝕄} (h : iprop(Rec xs ws K ∗ P) ⊢ wp frame (wpE (defs₀ (F := F)) 𝒱₀ (d : Thread nD τ) none) Set.univ a fun _ => Q) :
    Does xs ws K d P [a] Q := fun r Φ => step xs ws K h

theorem Does.append {P Q R : sProp 𝕄} {l l' : List (Act F)} (h : Does xs ws K d P l Q) (h' : Does xs ws K d Q l' R) : Does xs ws K d P (l ++ l') R := by
  intro r Φ
  rw [List.append_assoc]
  iintro ⟨#HR, HP⟩ Hk
  iapply (h (l' ++ r) Φ) $$ [HP]
  · isplitr; · iexact HR
    iexact HP
  iintro HQ
  iapply (h' r Φ) $$ [HQ]
  · isplitr; · iexact HR
    iexact HQ
  iexact Hk

theorem Does.frame {P Q : sProp 𝕄} {l : List (Act F)} (h : Does xs ws K d P l Q) (R : sProp 𝕄) : Does xs ws K d iprop(P ∗ R) l iprop(Q ∗ R) := by
  intro r Φ
  iintro ⟨#HR, HP, Hr⟩ Hk
  iapply (h r Φ) $$ [HP]
  · isplitr; · iexact HR
    iexact HP
  iintro HQ
  iapply Hk
  isplitl [HQ] <;> iassumption

theorem Does.conseq {P P' Q Q' : sProp 𝕄} {l : List (Act F)} (h : Does xs ws K d P l Q) (hP : P' ⊢ P) (hQ : Q ⊢ Q') : Does xs ws K d P' l Q' := by
  intro r Φ
  iintro ⟨#HR, HP⟩ Hk
  iapply (h r Φ) $$ [HP]
  · isplitr; · iexact HR
    iapply hP; iexact HP
  iintro HQ
  iapply Hk
  iapply hQ; iexact HQ

/-- Everything in the list is of step `p` or later. -/
abbrev From (p : ℕ) (l : List Xfer) : Prop := ∀ y ∈ l, p ≤ y.2.1.val

theorem From.before {p : Fin 4} {n : ℕ} {l : List Xfer} (h : From n l) (hp : p.val < n) (k : Fin 4) (b : Bool) : Before (some (false, (k, p, b))) l :=
  fun y hy => by have := h y hy; show 2 + p.val < 2 + y.2.1.val; omega
theorem From.cons {n : ℕ} {l : List Xfer} {x : Xfer} (h : From n l) (hx : n ≤ x.2.1.val) : From n (x :: l) := fun y hy => by
  rcases List.mem_cons.mp hy with rfl | hy
  · exact hx
  · exact h y hy

/-- One stage after the other, each paying for its own transfers. -/
theorem Does.loop {I : Type} (n : ℕ) (S : I → List Xfer) (st : I → List (Act F)) (P Q : I → sProp 𝕄) (hS : ∀ i, From n (S i))
    (h : ∀ i l, From n l → Does xs ws K d iprop(P i ∗ Ow d (S i ++ l)) (st i) iprop(Q i ∗ Ow d l)) :
    ∀ (is : List I) (l : List Xfer), From n l → Does xs ws K d iprop(bigSepL is P ∗ Ow d (is.flatMap S ++ l)) (is.flatMap st) iprop(bigSepL is Q ∗ Ow d l)
  | [], l, hl => by
    intro r Φ
    iintro ⟨-, H⟩ Hk
    iapply Hk; iexact H
  | i :: is, l, hl => by
    have hl' : From n (is.flatMap S ++ l) := fun y hy => by
      rcases List.mem_append.mp hy with hy | hy
      · obtain ⟨j, _, hj⟩ := List.mem_flatMap.mp hy; exact hS j y hj
      · exact hl y hy
    have h₁ := (h i (is.flatMap S ++ l) hl').frame (bigSepL is P)
    have h₂ := (Does.loop n S st P Q hS h is l hl).frame (Q i)
    have h₃ := h₁.append (h₂.conseq (P' := iprop((Q i ∗ Ow d (is.flatMap S ++ l)) ∗ bigSepL is P)) (by
      iintro ⟨⟨H1, H2⟩, H3⟩
      isplitr [H1]
      · isplitl [H3] <;> iassumption
      · iexact H1) (BI.Entails.refl _))
    rw [List.flatMap_cons, List.flatMap_cons, List.append_assoc, bigSepL_cons', bigSepL_cons']
    refine h₃.conseq ?_ ?_
    · iintro ⟨⟨H1, H2⟩, H3⟩
      isplitr [H2]
      · isplitl [H1] <;> iassumption
      · iexact H2
    · iintro ⟨⟨H1, H2⟩, H3⟩
      isplitr [H2]
      · isplitl [H3] <;> iassumption
      · iexact H2

end Cert.Fused

end
-- ==== Proof.NormalForm.lean ====
/- The kernel of one device is the list of operations of `Program`. -/
module

public import proofs.«01_k».proof.Proof.Program

@[expose] public section

noncomputable section

namespace Cert.Fused

open Cert.KernelIdeal Cert.KernelIdeal.Gen
open Idealize.ShloMosaic Idealize.ShloMosaic.TcCoe Idealize.SL.Sem

variable {F : FTy → Type} [FloatOps F]

/-! ## The stages -/

variable (d : Dev nD) (k : Fin 4)

def st1 : List (Act F) := [snd1 k true d, snd1 k false d]
def st2 : List (Act F) := [rcv1 k (cw k) d, add k (cw k) d, snd2 k (cw k) d, rcv1 k (!(cw k)) d, add k (!(cw k)) d, snd2 k (!(cw k)) d]
def st3 : List (Act F) := [rcv2 k true d, rcv2 k false d, gel k d, snd3 k false d, snd3 k true d]
def st4 : List (Act F) := [rcv3 k false d, rcv3 k true d, snd4 k false d, snd4 k true d]
def st5 : List (Act F) := [rcv4 k false d, rcv4 k true d]
def st6 : List (Act F) :=
  [fin1 k true d, fin1 k false d, fin2 k true d, fin2 k false d, fin3 k false d, fin3 k true d, fin4 k false d, fin4 k true d]

/-- The operations of device `d` after the opening handshake, in order. -/
def ops : List (Act F) :=
  [gemmH (lf d) 0] ++ ([0, 1].flatMap fun k => st1 d k) ++ [gemmH (rt d) 1] ++ ([2, 3].flatMap fun k => st1 d k)
    ++ [gemmF d, gemmF (op d), gemmH (rt d) 0, gemmH (lf d) 1]
    ++ ([0, 2, 1, 3].flatMap fun k => st2 d k) ++ ([0, 2, 1, 3].flatMap fun k => st3 d k) ++ ([0, 2, 1, 3].flatMap fun k => st4 d k)
    ++ ([0, 2, 1, 3].flatMap fun k => st5 d k) ++ ([0, 1, 2, 3].flatMap fun k => st6 d k)

/-! ## Operations with equal operands are equal -/

theorem load_step {s : Shape} {α : Type} {m : Memref sig .tc .vmem s .f32} {off off' size : Fin s.rank → ℕ}
    {inb : ∀ a, off a + size a ≤ s.size a} {inb' : ∀ a, off' a + size a ≤ s.size a} (h : off = off') {hl hl'}
    {f f' : Vec F ⟨s.rank, size⟩ .f32 → Prog (TpuEff nD τ sig (Elt F) Λ₀ .tc) α} (hf : ∀ v, f v = f' v) :
    Prog.op (.load m (Rect.unit (s := s) off size inb).toLoadRect hl) f = Prog.op (.load m (Rect.unit (s := s) off' size inb').toLoadRect hl') f' := by
  subst h; exact congrArg _ (funext hf)

theorem store_step {s : Shape} {α : Type} {m : Memref sig .tc .vmem s .f32} {off off' size : Fin s.rank → ℕ}
    {inb : ∀ a, off a + size a ≤ s.size a} {inb' : ∀ a, off' a + size a ≤ s.size a} (h : off = off')
    {v v' : Vec F ⟨s.rank, size⟩ .f32} (hv : v = v') {h1 h2 h1' h2'}
    {f f' : PUnit → Prog (TpuEff nD τ sig (Elt F) Λ₀ .tc) α} (hf : ∀ v, f v = f' v) :
    Prog.op (.store m (Rect.unit (s := s) off size inb) v Finset.univ h1 h2) f = Prog.op (.store m (Rect.unit (s := s) off' size inb') v' Finset.univ h1' h2') f' := by
  subst h hv; exact congrArg _ (funext hf)

theorem wait_step {s : Shape} {α : Type} {q q' : DmaSem sig} (hq : q = q') {m m' n n' : Memref sig .tc .vmem s .f32} (hm : m = m') (hn : n = n')
    {h1 h2 h1' h2'} {f f' : PUnit → Prog (TpuEff nD τ sig (Elt F) Λ₀ .tc) α} (hf : ∀ v, f v = f' v) :
    Prog.op (.waitDma2 q m n h1 h2) f = Prog.op (.waitDma2 q' m' n' h1' h2') f' := by
  subst hq hm hn; exact congrArg _ (funext hf)

theorem send_step {s : Shape} {α : Type} {e e' : Dev nD} (he : e = e') {q q' r r' : DmaSem sig} (hq : q = q') (hr : r = r')
    {m m' n n' : Memref sig .tc .vmem s .f32} (hm : m = m') (hn : n = n')
    {h4} {h4'} {h1} {h2} {h3} {h1'} {h2'} {h3'} {f f' : PUnit → Prog (TpuEff nD τ sig (Elt F) Λ₀ .tc) α} (hf : ∀ v, f v = f' v) :
    Prog.op (.enqueueDma m (.remote (Dev.tc e) n (.dma q) h4) (.dma r) h1 h2 h3) f
      = Prog.op (.enqueueDma m' (.remote (Dev.tc e') n' (.dma q') h4') (.dma r') h1' h2' h3') f' := by
  subst he hq hr hm hn; exact congrArg _ (funext hf)

theorem signal_step {α : Type} {e e' : Dev nD} (he : e = e') {q : Sem sig} {i : ℤ}
    {f f' : PUnit → Prog (TpuEff nD τ sig (Elt F) Λ₀ .tc) α} (hf : ∀ v, f v = f' v) :
    Prog.op (.semSignal (Dev.tc e) q i) f = Prog.op (.semSignal (Dev.tc e') q i) f' := by
  subst he; exact congrArg _ (funext hf)

theorem slice_eq {s : Shape} {m : Memref sig .tc .vmem s .f32} {off off' size : Fin s.rank → ℕ}
    {inb : ∀ a, off a + size a ≤ s.size a} {inb' : ∀ a, off' a + size a ≤ s.size a} (h : off = off') :
    m.slice (Rect.unit (s := s) off size inb) (fun _ => rfl) = m.slice (Rect.unit (s := s) off' size inb') (fun _ => rfl) := by
  subst h; rfl

set_option maxRecDepth 65536 in
set_option maxHeartbeats 0 in
/-- The kernel on one device: read the device's name, signal both neighbours, wait for both, run the list. -/
theorem body_eq : cc0_body (F := F) xM (Memref.isWhole_whole _) wM (Memref.isWhole_whole _) oM (Memref.isWhole_whole _) aM (Memref.isWhole_whole _) bM (Memref.isWhole_whole _) cc0_scratch2 cc0_scratch3
    = (Prog.lift .deviceId >>= fun d => semSignalWord (lf d) barS 1#32 >>= fun _ => semSignalWord (rt d) barS 1#32 >>= fun _ =>
        semWaitWord barS 2#32 >>= fun _ => run (ops d)) := by
  simp only [cc0_body_eq_skeleton, cc0_body_skel,
    k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    k0_part36_eq_skeleton, k0_part36_skel,
    semSignalWord, semWaitWord, ops, st1, st2, st3, st4, st5, st6, List.flatMap_cons, List.flatMap_nil, List.append_assoc, List.cons_append,
    List.nil_append, run, snd1, snd2, snd3, snd4, rcv1, rcv2, rcv3, rcv4, fin1, fin2, fin3, fin4, gemmH, gemmF, add, gel, snd, wt,
    Prog.lift, Prog.bind_op, Prog.bind_ret, Prog.pure_eq_ret]
  refine congrArg _ (funext fun d => ?_)
  refine signal_step (by revert d; decide +kernel) fun _ => signal_step (by revert d; decide +kernel) fun _ => congrArg _ (funext fun _ => ?_)
  repeat first
    | refine load_step (by first | rfl | (revert d; decide +kernel)) fun _ => ?_
    | refine store_step (by revert d; decide +kernel) (by rfl) fun _ => ?_
    | refine wait_step (by rfl) (by first | exact slice_eq (by revert d; decide +kernel) | rfl) (by first | exact slice_eq (by revert d; decide +kernel) | rfl) fun _ => ?_
    | refine send_step (by revert d; decide +kernel) (by rfl) (by rfl) (by first | exact slice_eq (by revert d; decide +kernel) | rfl) (by first | exact slice_eq (by revert d; decide +kernel) | rfl) fun _ => ?_
  rfl

end Cert.Fused

end
-- ==== Proof.Stages.lean ====
/- The stages of one stream: send the first halves, add and send on, finish the chunk and send it, forward, collect. -/
module

public import proofs.«01_k».proof.Proof.Moves
public import proofs.«01_k».proof.Proof.NormalForm

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (ws : Dev nD → WBuf F)
variable (K : Dev nD × CI → ℕ)

/-! ## Chunks and their halves, shares, and what is kept -/

theorem bigSep_two {I : Type} [Fintype I] [DecidableEq I] (a b : I) (h : (Finset.univ : Finset I) = [a, b].toFinset) (hn : [a, b].Nodup) (Φ : I → sProp 𝕄) :
    bigSep Finset.univ Φ = iprop(Φ a ∗ Φ b) := by
  rw [bigSep_univ_eq_bigSepL [a, b] h hn, bigSepL_cons_cons, bigSepL_singleton]; rfl
theorem bigSep_four {I : Type} [Fintype I] [DecidableEq I] (a b c d : I) (h : (Finset.univ : Finset I) = [a, b, c, d].toFinset) (hn : [a, b, c, d].Nodup) (Φ : I → sProp 𝕄) :
    bigSep Finset.univ Φ = iprop(Φ a ∗ Φ b ∗ Φ c ∗ Φ d) := by
  rw [bigSep_univ_eq_bigSepL [a, b, c, d] h hn, bigSepL_cons_cons, bigSepL_cons_cons, bigSepL_cons_cons, bigSepL_singleton]; rfl

theorem cT_hx (t c : Dev nD) (k : Fin 4) (b : Bool) (f : OBuf F) : (cT t c k fullShare f : sProp 𝕄) = iprop(hT t c (hx k b) k f ∗ hT t c (hx k (!b)) k f) := by
  rw [cT_halves]; exact bigSep_two _ _ (by revert k b; decide +kernel) (by revert k b; decide +kernel) _
theorem cT_sl (t c : Dev nD) (k : Fin 4) (b : Bool) (f : OBuf F) : (cT t c k fullShare f : sProp 𝕄) = iprop(hT t c (sl b) k f ∗ hT t c (sl (!b)) k f) := by
  rw [cT_halves]; exact bigSep_two _ _ (by revert b; decide +kernel) (by revert b; decide +kernel) _
theorem cT_shr (t c : Dev nD) (k : Fin 4) (f : OBuf F) : (cT t c k fullShare f : sProp 𝕄) = iprop(cT t c k (shr true) f ∗ cT t c k (shr false) f) := by
  unfold cT
  exact BI.Entails.antisymm (pointsTo_share (PosShare.mem_left_op_right _)).1 (pointsTo_share (PosShare.mem_left_op_right _)).2

/-- A piece goes to one of the two kinds of stream. -/
theorem keep_or_pass (k : Fin 4) (P : sProp 𝕄) : P ⊢ iprop(stay k P ∗ extra k P) := by
  unfold stay extra
  generalize cw k = c
  cases c
  · iintro H; isplitr; · iempintro
    iexact H
  · iintro H; isplitl; · iexact H
    iempintro

/-- The place for the forwarded half comes from one of two earlier transfers. -/
theorem place (k : Fin 4) (b : Bool) (d : Dev nD) :
    iprop(stay k (Ht (nb (!(!b)) d) k (hx k (!b))) ∗ extra k (Ht (nb b d) k (hx k b))) ⊢ (Ht (nb b d) k (sl b) : sProp 𝕄) := by
  have h : (cw k = true ∧ hx k (!b) = sl b) ∨ (cw k = false ∧ hx k b = sl b) := by revert k b; decide +kernel
  unfold stay extra
  rcases h with ⟨h, e⟩ | ⟨h, e⟩ <;> rw [h, e]
  · rw [Bool.not_not]; iintro ⟨H, -⟩; iexact H
  · iintro ⟨-, H⟩; iexact H

/-! ## The stages -/

section
variable (d : Dev nD)

def P1 (y : Fin 4 × Bool) : sProp 𝕄 :=
  iprop(hT d (op (own y.1 d)) (hx y.1 y.2) y.1 (pG xs ws d) ∗ At (nb y.2 d) y.1 (sl y.2) ∗ tok d (y.1, 0, y.2))
def Q1 (y : Fin 4 × Bool) : sProp 𝕄 := cred (tallyAt (snt d (y.1, 0, y.2)) () (nX 0))

theorem stage1 (y : Fin 4 × Bool) (l : List Xfer) :
    Does xs ws K d iprop(P1 xs ws d y ∗ Ow d ([(y.1, 0, y.2)] ++ l)) [snd1 y.1 y.2 d] iprop(Q1 d y ∗ Ow d l) :=
  (Does.one (snd1_spec xs ws K y.1 y.2 d l)).conseq (by
    unfold P1
    simp only [List.cons_append, List.nil_append]
    iintro ⟨⟨H1, H2, H3⟩, H4⟩
    isplitl [H1]; · iexact H1
    isplitl [H2]; · iexact H2
    isplitl [H3] <;> iassumption) (BI.Entails.refl _)

def P2 (y : Fin 4 × Bool) : sProp 𝕄 :=
  iprop(wtr d (false, (y.1, 0, y.2)) ∗ cT d (tgt y.1 y.2 d) y.1 fullShare (pG xs ws d) ∗ Bt (nb y.2 d) y.1 (sl y.2) ∗ tok d (y.1, 1, y.2))
def Q2 (y : Fin 4 × Bool) : sProp 𝕄 :=
  iprop(At d y.1 (sl y.2) ∗ semVal (rcv d (y.1, 0, y.2)) 0 ∗ cred (tallyAt (snt d (y.1, 1, y.2)) () (nX 1)) ∗ stay y.1 (Ht (nb (!y.2) d) y.1 (hx y.1 y.2)))

/-- Adding leaves the other half of the chunk as it was. -/
theorem add_whole (k : Fin 4) (b : Bool) :
    iprop(hT d (tgt k b d) (hx k b) k (pS xs ws k b d) ∗ hT d (tgt k b d) (hx k (!b)) k (pG xs ws d)) ⊢ (cT d (tgt k b d) k fullShare (pS xs ws k b d) : sProp 𝕄) := by
  rw [cT_hx d (tgt k b d) k b, hT_congr (f := pS xs ws k b d) (g := pG xs ws d) fun i hi => pS_off xs ws k b d (tgt k b d) (hx k (!b)) (hx_ne k b) i hi]

theorem stage2 (y : Fin 4 × Bool) (l : List Xfer) (hl : From 1 l) :
    Does xs ws K d iprop(P2 xs ws d y ∗ Ow d ([(y.1, 1, y.2)] ++ l)) [rcv1 y.1 y.2 d, add y.1 y.2 d, snd2 y.1 y.2 d] iprop(Q2 d y ∗ Ow d l) := by
  obtain ⟨k, b⟩ := y
  intro r Φ
  unfold P2 Q2
  simp only [List.cons_append, List.nil_append]
  iintro ⟨#HR, ⟨Hw, Hc, Hb, Ht⟩, Ho⟩ Hk
  iapply (step xs ws K (rcv1_spec xs ws K k b d ((k, 1, b) :: l) (From.before (From.cons hl (le_refl 1)) (by decide) k b))) $$ [Hw Ho]
  · isplitr; · iexact HR
    isplitl [Hw] <;> iassumption
  iintro ⟨Ho, Hz, Hp⟩
  unfold recvPay
  dsimp only
  icases Hp with ⟨Ha, Hh⟩
  ihave Hh := (keep_or_pass k (Ht (nb (!b) d) k (hx k b))) $$ Hh
  icases Hh with ⟨Hst, Hex⟩
  ihave Hc := (Entails.of_eq (cT_hx d (tgt k b d) k b (pG xs ws d))) $$ Hc
  icases Hc with ⟨H1, H2⟩
  iapply (step xs ws K (add_spec xs ws K k b d)) $$ [H1 Ha]
  · isplitr; · iexact HR
    isplitl [H1] <;> iassumption
  iintro ⟨H1, Ha⟩
  ihave Hc := (add_whole xs ws d k b) $$ [H1 H2]
  · isplitl [H1] <;> iassumption
  iapply (step xs ws K (snd2_spec xs ws K k b d l)) $$ [Hc Hb Hex Ht Ho]
  · isplitr; · iexact HR
    isplitl [Hc]; · iexact Hc
    isplitl [Hb Hex]
    · isplitl [Hb] <;> iassumption
    isplitl [Ht] <;> iassumption
  iintro ⟨Hcr, Ho⟩
  iapply Hk
  isplitr [Ho]
  · isplitl [Ha]; · unfold At; iexists _; iexact Ha
    isplitl [Hz]; · iexact Hz
    isplitl [Hcr] <;> iassumption
  iexact Ho

def P3 (k : Fin 4) : sProp 𝕄 :=
  iprop((wtr d (false, (k, 1, true)) ∗ wtr d (false, (k, 1, false))) ∗ cT d (own k d) k fullShare (pG xs ws d) ∗ (tok d (k, 2, true) ∗ tok d (k, 2, false)))
def Q3 (k : Fin 4) : sProp 𝕄 :=
  iprop((Bt d k (sl true) ∗ Bt d k (sl false)) ∗ (semVal (rcv d (k, 1, true)) 0 ∗ semVal (rcv d (k, 1, false)) 0)
    ∗ (cred (tallyAt (snt d (k, 2, true)) () (nX 2)) ∗ cred (tallyAt (snt d (k, 2, false)) () (nX 2))))

theorem stage3 (k : Fin 4) (l : List Xfer) (hl : From 2 l) :
    Does xs ws K d iprop(P3 xs ws d k ∗ Ow d ([(k, 2, false), (k, 2, true)] ++ l)) (st3 d k) iprop(Q3 d k ∗ Ow d l) := by
  intro r Φ
  unfold P3 Q3 st3
  simp only [List.cons_append, List.nil_append]
  have hl' : From 2 ((k, 2, false) :: (k, 2, true) :: l) := From.cons (From.cons hl (le_refl 2)) (le_refl 2)
  iintro ⟨#HR, ⟨⟨Hw1, Hw2⟩, Hc, ⟨Ht1, Ht2⟩⟩, Ho⟩ Hk
  iapply (step xs ws K (rcv2_spec xs ws K k true d _ (From.before hl' (by decide) k true))) $$ [Hw1 Ho]
  · isplitr; · iexact HR
    isplitl [Hw1] <;> iassumption
  iintro ⟨Ho, Hz1, Hp1⟩
  iapply (step xs ws K (rcv2_spec xs ws K k false d _ (From.before hl' (by decide) k false))) $$ [Hw2 Ho]
  · isplitr; · iexact HR
    isplitl [Hw2] <;> iassumption
  iintro ⟨Ho, Hz2, Hp2⟩
  unfold recvPay
  dsimp only
  icases Hp1 with ⟨Hb1, Hd1, He1⟩
  icases Hp2 with ⟨Hb2, Hd2, He2⟩
  iapply (step xs ws K (gel_spec xs ws K k d)) $$ [Hc Hb1 Hb2]
  · isplitr; · iexact HR
    isplitl [Hc]; · iexact Hc
    isplitl [Hb2]; · iexact Hb2
    iexact Hb1
  iintro ⟨Hc, Hb2, Hb1⟩
  ihave Hc := (Entails.of_eq (cT_shr d (own k d) k (pZ xs ws))) $$ Hc
  icases Hc with ⟨Hc1, Hc2⟩
  iapply (step xs ws K (snd3_spec xs ws K k false d ((k, 2, true) :: l))) $$ [Hc2 Hd1 He2 Ht2 Ho]
  · isplitr; · iexact HR
    isplitl [Hc2]; · iexact Hc2
    isplitl [Hd1 He2]
    · isplitl [Hd1]; · iexact Hd1
      iexact He2
    isplitl [Ht2] <;> iassumption
  iintro ⟨Hcr2, Ho⟩
  iapply (step xs ws K (snd3_spec xs ws K k true d l)) $$ [Hc1 Hd2 He1 Ht1 Ho]
  · isplitr; · iexact HR
    isplitl [Hc1]; · iexact Hc1
    isplitl [Hd2 He1]
    · isplitl [Hd2]; · iexact Hd2
      iexact He1
    isplitl [Ht1] <;> iassumption
  iintro ⟨Hcr1, Ho⟩
  iapply Hk
  isplitr [Ho]
  · isplitl [Hb1 Hb2]
    · unfold Bt
      isplitl [Hb1]
      · iexists _; iexact Hb1
      · iexists _; iexact Hb2
    isplitl [Hz1 Hz2]
    · isplitl [Hz1] <;> iassumption
    isplitl [Hcr1] <;> iassumption
  iexact Ho

def P4 (k : Fin 4) : sProp 𝕄 :=
  iprop((wtr d (false, (k, 2, true)) ∗ wtr d (false, (k, 2, false))) ∗ (tok d (k, 3, true) ∗ tok d (k, 3, false))
    ∗ (stay k (Ht (nb (!true) d) k (hx k true)) ∗ stay k (Ht (nb (!false) d) k (hx k false))))
def Q4 (k : Fin 4) : sProp 𝕄 :=
  iprop((hT d (nxo k true d) (sl (!true)) k (pZ xs ws) ∗ hT d (nxo k false d) (sl (!false)) k (pZ xs ws)) ∗ (semVal (rcv d (k, 2, true)) 0 ∗ semVal (rcv d (k, 2, false)) 0)
    ∗ (cred (tallyAt (snt d (k, 3, true)) () (nX 3)) ∗ cred (tallyAt (snt d (k, 3, false)) () (nX 3))))

theorem stage4 (k : Fin 4) (l : List Xfer) (hl : From 3 l) :
    Does xs ws K d iprop(P4 d k ∗ Ow d ([(k, 3, false), (k, 3, true)] ++ l)) (st4 d k) iprop(Q4 xs ws d k ∗ Ow d l) := by
  intro r Φ
  unfold P4 Q4 st4
  simp only [List.cons_append, List.nil_append]
  have hl' : From 3 ((k, 3, false) :: (k, 3, true) :: l) := From.cons (From.cons hl (le_refl 3)) (le_refl 3)
  iintro ⟨#HR, ⟨⟨Hw1, Hw2⟩, ⟨Ht1, Ht2⟩, ⟨Hs1, Hs2⟩⟩, Ho⟩ Hk
  iapply (step xs ws K (rcv3_spec xs ws K k false d _ (From.before hl' (by decide) k false))) $$ [Hw2 Ho]
  · isplitr; · iexact HR
    isplitl [Hw2] <;> iassumption
  iintro ⟨Ho, Hz2, Hp2⟩
  iapply (step xs ws K (rcv3_spec xs ws K k true d _ (From.before hl' (by decide) k true))) $$ [Hw1 Ho]
  · isplitr; · iexact HR
    isplitl [Hw1] <;> iassumption
  iintro ⟨Ho, Hz1, Hp1⟩
  unfold recvPay
  dsimp only
  icases Hp1 with ⟨Hc1, He1⟩
  icases Hp2 with ⟨Hc2, He2⟩
  ihave Hc1 := (Entails.of_eq ((congrArg (fun c => cT d c k fullShare (pZ xs ws)) (own_back k true d)).trans (cT_sl d (nxo k true d) k true (pZ xs ws)))) $$ Hc1
  ihave Hc2 := (Entails.of_eq ((congrArg (fun c => cT d c k fullShare (pZ xs ws)) (own_back k false d)).trans (cT_sl d (nxo k false d) k false (pZ xs ws)))) $$ Hc2
  icases Hc1 with ⟨Hc1, Hr1⟩
  icases Hc2 with ⟨Hc2, Hr2⟩
  ihave Hd2 := (place k false d) $$ [Hs1 He2]
  · isplitl [Hs1]; · iexact Hs1
    iexact He2
  ihave Hd1 := (place k true d) $$ [Hs2 He1]
  · isplitl [Hs2]; · iexact Hs2
    iexact He1
  iapply (step xs ws K (snd4_spec xs ws K k false d ((k, 3, true) :: l))) $$ [Hc2 Hd2 Ht2 Ho]
  · isplitr; · iexact HR
    isplitl [Hc2]; · iexact Hc2
    isplitl [Hd2]; · iexact Hd2
    isplitl [Ht2] <;> iassumption
  iintro ⟨Hcr2, Ho⟩
  iapply (step xs ws K (snd4_spec xs ws K k true d l)) $$ [Hc1 Hd1 Ht1 Ho]
  · isplitr; · iexact HR
    isplitl [Hc1]; · iexact Hc1
    isplitl [Hd1]; · iexact Hd1
    isplitl [Ht1] <;> iassumption
  iintro ⟨Hcr1, Ho⟩
  iapply Hk
  isplitr [Ho]
  · isplitl [Hr1 Hr2]
    · isplitl [Hr1] <;> iassumption
    isplitl [Hz1 Hz2]
    · isplitl [Hz1] <;> iassumption
    isplitl [Hcr1] <;> iassumption
  iexact Ho

def P5 (y : Fin 4 × Bool) : sProp 𝕄 := wtr d (false, (y.1, 3, y.2))
def Q5 (y : Fin 4 × Bool) : sProp 𝕄 := iprop(semVal (rcv d (y.1, 3, y.2)) 0 ∗ hT d (op (own y.1 d)) (sl y.2) y.1 (pZ xs ws))

/-- An action that only needs to know that nothing is owed, seen as a stage. -/
theorem stage_of {a : Act F} {P Q R : sProp 𝕄} (h : iprop(Rec xs ws K ∗ P ∗ Ow d []) ⊢ wp frame (wpE (defs₀ (F := F)) 𝒱₀ (d : Thread nD τ) none) Set.univ a fun _ => iprop(Ow d [] ∗ Q ∗ R)) :
    Does xs ws K d iprop(P ∗ Ow d []) [a] iprop((Q ∗ R) ∗ Ow d []) :=
  (Does.one h).conseq (BI.Entails.refl _) (by
    iintro ⟨H1, H2⟩
    isplitl [H2] <;> iassumption)

theorem stage5 (y : Fin 4 × Bool) : Does xs ws K d iprop(P5 d y ∗ Ow d []) [rcv4 y.1 y.2 d] iprop(Q5 xs ws d y ∗ Ow d []) :=
  stage_of xs ws K d (rcv4_spec xs ws K y.1 y.2 d [] fun y hy => absurd hy List.not_mem_nil)

def Q6 (x : Xfer) : sProp 𝕄 := iprop(semVal (snt d x) 0 ∗ sendPay xs ws d x)

theorem stage6 (x : Xfer) : Does xs ws K d iprop(wtr d (true, x) ∗ Ow d []) [fin d x] iprop(Q6 xs ws d x ∗ Ow d []) :=
  stage_of xs ws K d (fin_spec xs ws K d x)

end

end Cert.Fused

end
-- ==== Proof.Body.lean ====
/- The operations of one device from beginning to end. -/
module

public import proofs.«01_k».proof.Proof.Stages

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (ws : Dev nD → WBuf F)
variable (K : Dev nD × CI → ℕ)

/-! ## Reordering -/

/-- Both directions of every stream. -/
theorem both (Φ : Fin 4 × Bool → sProp 𝕄) : bigSep Finset.univ Φ = bigSep Finset.univ fun k : Fin 4 => iprop(Φ (k, true) ∗ Φ (k, false)) := by
  rw [bigSep_univ_prod]
  exact bigSep_congr fun k _ => bigSep_two true false (by decide) (by decide) _

/-- The transfers step by step. -/
def byStep : Fin 4 × (Fin 4 × Bool) ≃ Xfer := ⟨fun y => (y.2.1, y.1, y.2.2), fun x => (x.2.1, (x.1, x.2.2)), fun _ => rfl, fun _ => rfl⟩
theorem steps (Φ : Xfer → sProp 𝕄) : bigSep Finset.univ Φ
    = iprop((bigSep Finset.univ fun y : Fin 4 × Bool => Φ (y.1, 0, y.2)) ∗ (bigSep Finset.univ fun y : Fin 4 × Bool => Φ (y.1, 1, y.2))
      ∗ (bigSep Finset.univ fun y : Fin 4 × Bool => Φ (y.1, 2, y.2)) ∗ (bigSep Finset.univ fun y : Fin 4 × Bool => Φ (y.1, 3, y.2))) := by
  rw [bigSep_univ_equiv byStep Φ, bigSep_univ_prod, bigSep_four 0 1 2 3 (by decide) (by decide)]
  rfl

theorem four_flat (A B C D : sProp 𝕄) : (iprop((A ∗ B) ∗ C ∗ D) : sProp 𝕄) = iprop(A ∗ B ∗ C ∗ D) := by
  have h₁ : iprop((A ∗ B) ∗ C ∗ D) ⊢ (iprop(A ∗ B ∗ C ∗ D) : sProp 𝕄) := by
    iintro ⟨⟨H0, H1⟩, H⟩
    isplitl [H0]; · iexact H0
    isplitl [H1] <;> iassumption
  have h₂ : iprop(A ∗ B ∗ C ∗ D) ⊢ (iprop((A ∗ B) ∗ C ∗ D) : sProp 𝕄) := by
    iintro ⟨H0, H1, H⟩
    isplitl [H0 H1]
    · isplitl [H0] <;> iassumption
    iexact H
  exact BI.Entails.antisymm h₁ h₂
/-- A chunk is its four streams. -/
theorem fT_chunks (t c : Dev nD) (f : OBuf F) : (fT t c f : sProp 𝕄) = bigSep Finset.univ fun k => cT t c k fullShare f := by
  rw [fT_wides, bigSep_two 0 1 (by decide) (by decide), wT_chunks, wT_chunks, bigSep_two 0 1 (by decide) (by decide), bigSep_two 0 1 (by decide) (by decide),
    bigSep_four 0 1 2 3 (by decide) (by decide)]
  exact four_flat _ _ _ _

section
variable (d : Dev nD)

/-! ## The first products and sends -/

/-- The streams of half `j` of the columns, in both directions. -/
abbrev lst (j : Fin 2) : List (Fin 4 × Bool) := [(pair j 0, true), (pair j 0, false), (pair j 1, true), (pair j 1, false)]
def R1 (y : Fin 4 × Bool) : sProp 𝕄 := iprop(At (nb y.2 d) y.1 (sl y.2) ∗ tok d (y.1, 0, y.2))
abbrev S (p : Fin 4) (y : Fin 4 × Bool) : List Xfer := [(y.1, p, y.2)]

theorem first_halves (k : Fin 4) (c : Dev nD) (hc : nb (cw k) d = c) :
    iprop(cT d c k fullShare (pG xs ws d) ∗ R1 d (k, true) ∗ R1 d (k, false)) ⊢ (iprop(P1 xs ws d (k, true) ∗ P1 xs ws d (k, false)) : sProp 𝕄) := by
  rw [← hc, nb_cw, cT_hx d (op (own k d)) k true]
  unfold P1 R1
  iintro ⟨⟨H1, H2⟩, H3, H4⟩
  isplitl [H1 H3]
  · isplitl [H1] <;> iassumption
  · isplitl [H2]; · iexact H2
    iexact H4

theorem start1 (j : Fin 2) (c : Dev nD) (hc : ¬ (c = d ∨ c = op d)) (hk : ∀ h, nb (cw (pair j h)) d = c) (f : OBuf F) (l : List Xfer) (hl : From 0 l) :
    Does xs ws K d iprop(inT xs ws d ∗ wT d c j f ∗ bigSepL (lst j) (R1 d) ∗ Ow d ((lst j).flatMap (S 0) ++ l))
      ([gemmH c j] ++ (lst j).flatMap fun y => [snd1 y.1 y.2 d]) iprop(inT xs ws d ∗ bigSepL (lst j) (Q1 d) ∗ Ow d l) := by
  have h₁ := (Does.one (gemmH_spec xs ws K d c j hc f)).frame iprop(bigSepL (lst j) (R1 d) ∗ Ow d ((lst j).flatMap (S 0) ++ l))
  have h₂ := (Does.loop (xs := xs) (ws := ws) (K := K) (d := d) 0 (S 0) (fun y => [snd1 y.1 y.2 d]) (P1 xs ws d) (Q1 d)
    (fun i y _ => Nat.zero_le _) (fun i l _ => stage1 xs ws K d i l) (lst j) l hl).frame (inT xs ws d)
  refine (h₁.append (h₂.conseq ?_ (BI.Entails.refl _))).conseq ?_ ?_
  · rw [wT_chunks, bigSep_two 0 1 (by decide) (by decide)]
    simp only [bigSepL_cons', bigSepL_nil]
    iintro ⟨⟨Hi, H0, H1⟩, ⟨Ha, Hb, Hc, Hd, -⟩, Ho⟩
    ihave H0 := (first_halves xs ws d (pair j 0) c (hk 0)) $$ [H0 Ha Hb]
    · isplitl [H0]; · iexact H0
      isplitl [Ha] <;> iassumption
    ihave H1 := (first_halves xs ws d (pair j 1) c (hk 1)) $$ [H1 Hc Hd]
    · isplitl [H1]; · iexact H1
      isplitl [Hc] <;> iassumption
    icases H0 with ⟨Ha, Hb⟩
    icases H1 with ⟨Hc, Hd⟩
    isplitr [Hi]
    · isplitr [Ho]
      · isplitl [Ha]; · iexact Ha
        isplitl [Hb]; · iexact Hb
        isplitl [Hc]; · iexact Hc
        isplitl [Hd]; · iexact Hd
        iempintro
      · iexact Ho
    · iexact Hi
  · iintro ⟨Hi, Hw, Hr, Ho⟩
    isplitl [Hi Hw]
    · isplitl [Hi] <;> iassumption
    · isplitl [Hr] <;> iassumption
  · iintro ⟨⟨Hq, Ho⟩, Hi⟩
    isplitl [Hi]; · iexact Hi
    isplitl [Hq] <;> iassumption

/-! ## The other products -/

theorem lf_far : ¬ (lf d = d ∨ lf d = op d) := by revert d; decide +kernel
theorem rt_far : ¬ (rt d = d ∨ rt d = op d) := by revert d; decide +kernel

theorem rest_products (f : OBuf F) :
    Does xs ws K d iprop(inT xs ws d ∗ fT d d f ∗ fT d (op d) f ∗ wT d (rt d) 0 f ∗ wT d (lf d) 1 f)
      [gemmF d, gemmF (op d), gemmH (rt d) 0, gemmH (lf d) 1]
      iprop(inT xs ws d ∗ fT d d (pG xs ws d) ∗ fT d (op d) (pG xs ws d) ∗ wT d (rt d) 0 (pG xs ws d) ∗ wT d (lf d) 1 (pG xs ws d)) := by
  intro r Φ
  simp only [List.cons_append, List.nil_append]
  iintro ⟨#HR, Hi, H1, H2, H3, H4⟩ Hk
  iapply (step xs ws K (gemmF_spec xs ws K d d (Or.inl rfl) f)) $$ [Hi H1]
  · isplitr; · iexact HR
    isplitl [Hi] <;> iassumption
  iintro ⟨Hi, H1⟩
  iapply (step xs ws K (gemmF_spec xs ws K d (op d) (Or.inr rfl) f)) $$ [Hi H2]
  · isplitr; · iexact HR
    isplitl [Hi] <;> iassumption
  iintro ⟨Hi, H2⟩
  iapply (step xs ws K (gemmH_spec xs ws K d (rt d) 0 (rt_far d) f)) $$ [Hi H3]
  · isplitr; · iexact HR
    isplitl [Hi] <;> iassumption
  iintro ⟨Hi, H3⟩
  iapply (step xs ws K (gemmH_spec xs ws K d (lf d) 1 (lf_far d) f)) $$ [Hi H4]
  · isplitr; · iexact HR
    isplitl [Hi] <;> iassumption
  iintro ⟨Hi, H4⟩
  iapply Hk
  isplitl [Hi]; · iexact Hi
  isplitl [H1]; · iexact H1
  isplitl [H2]; · iexact H2
  isplitl [H3] <;> iassumption

theorem tgt_chunks (f : OBuf F) : iprop(fT d d f ∗ fT d (op d) f) ⊢ (bigSep Finset.univ fun y : Fin 4 × Bool => cT d (tgt y.1 y.2 d) y.1 fullShare f : sProp 𝕄) := by
  rw [fT_chunks, fT_chunks, ← bigSep_sep', both]
  have hk (k : Fin 4) : iprop(cT d d k fullShare f ∗ cT d (op d) k fullShare f) ⊢ (iprop(cT d (tgt k true d) k fullShare f ∗ cT d (tgt k false d) k fullShare f) : sProp 𝕄) := by
    have h : (tgt k true d = d ∧ tgt k false d = op d) ∨ (tgt k true d = op d ∧ tgt k false d = d) := by revert k d; decide +kernel
    iintro ⟨H1, H2⟩
    rcases h with ⟨h₁, h₂⟩ | ⟨h₁, h₂⟩ <;> rw [h₁, h₂]
    · isplitl [H1] <;> iassumption
    · isplitl [H2] <;> iassumption
  exact bigSep_mono fun k _ => hk k

theorem own_chunks (f : OBuf F) : iprop(wT d (rt d) 0 f ∗ wT d (lf d) 1 f) ⊢ (bigSep Finset.univ fun k : Fin 4 => cT d (own k d) k fullShare f : sProp 𝕄) := by
  rw [wT_chunks, wT_chunks, bigSep_two 0 1 (by decide) (by decide), bigSep_two 0 1 (by decide) (by decide), bigSep_four 0 1 2 3 (by decide) (by decide)]
  iintro ⟨⟨H0, H1⟩, H2, H3⟩
  isplitl [H0]; · iexact H0
  isplitl [H1]; · iexact H1
  isplitl [H2]; · iexact H2
  iexact H3

/-! ## The order of the transfers -/

abbrev ord2 : List (Fin 4 × Bool) := [0, 2, 1, 3].flatMap fun k : Fin 4 => [(k, cw k), (k, !(cw k))]
abbrev ord3 : List (Fin 4) := [0, 2, 1, 3]
abbrev ord5 : List (Fin 4 × Bool) := [0, 2, 1, 3].flatMap fun k : Fin 4 => [(k, false), (k, true)]
abbrev ord6 : List Xfer :=
  [0, 1, 2, 3].flatMap fun k : Fin 4 => [(k, 0, true), (k, 0, false), (k, 1, true), (k, 1, false), (k, 2, false), (k, 2, true), (k, 3, false), (k, 3, true)]
abbrev SS (p : Fin 4) (k : Fin 4) : List Xfer := [(k, p, false), (k, p, true)]
abbrev sched4 : List Xfer := ord3.flatMap (SS 3) ++ []
abbrev sched3 : List Xfer := ord3.flatMap (SS 2) ++ sched4
abbrev sched2 : List Xfer := ord2.flatMap (S 1) ++ sched3
abbrev sched1 : List Xfer := (lst 1).flatMap (S 0) ++ sched2
abbrev sched0 : List Xfer := (lst 0).flatMap (S 0) ++ sched1

theorem sched_eq : sched = sched0 := by decide +kernel

theorem ops_eq : ops (F := F) d = ([gemmH (lf d) 0] ++ (lst 0).flatMap fun y => [snd1 y.1 y.2 d])
    ++ (([gemmH (rt d) 1] ++ (lst 1).flatMap fun y => [snd1 y.1 y.2 d])
    ++ ([gemmF d, gemmF (op d), gemmH (rt d) 0, gemmH (lf d) 1]
    ++ ((ord2.flatMap fun y => [rcv1 y.1 y.2 d, add y.1 y.2 d, snd2 y.1 y.2 d])
    ++ ((ord3.flatMap (st3 d)) ++ ((ord3.flatMap (st4 d)) ++ ((ord5.flatMap fun y => [rcv4 y.1 y.2 d]) ++ (ord6.flatMap fun x => [fin d x]))))))) := rfl

end

end Cert.Fused

end
-- ==== Proof.Whole.lean ====
/- The whole of one device's kernel: from its inputs and the landing buffers to the finished result. -/
module

public import proofs.«01_k».proof.Proof.Body

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → XBuf F) (ws : Dev nD → WBuf F)
variable (K : Dev nD × CI → ℕ)

/-! ## Gathering -/

theorem gather {I : Type} [Fintype I] [DecidableEq I] (Φ Ψ : I → sProp 𝕄) :
    (iprop(bigSep Finset.univ Φ ∗ bigSep Finset.univ Ψ) : sProp 𝕄) = bigSep Finset.univ fun i => iprop(Φ i ∗ Ψ i) := (bigSep_sep' _ _ _).symm

theorem lst_split (Φ : Fin 4 × Bool → sProp 𝕄) : bigSep Finset.univ Φ = iprop(bigSepL (lst 0) Φ ∗ bigSepL (lst 1) Φ) := by
  rw [← bigSepL_append]; exact bigSep_univ_eq_bigSepL (lst 0 ++ lst 1) (by decide +kernel) (by decide +kernel) Φ

/-- The two slots as directions. -/
def slots : Bool ≃ Fin 2 := ⟨sl, fun j => decide (j = 1), by decide +kernel, by decide +kernel⟩
theorem by_slot (Φ : Fin 4 × Fin 2 → sProp 𝕄) : bigSep Finset.univ Φ = bigSep Finset.univ fun y : Fin 4 × Bool => Φ (y.1, sl y.2) := by
  rw [bigSep_univ_equiv (Equiv.prodCongr (Equiv.refl (Fin 4)) slots) Φ]; rfl

theorem chunks_swap (t : Dev nD) (f : OBuf F) :
    (bigSep Finset.univ fun k : Fin 4 => bigSep Finset.univ fun c : Dev nD => cT t c k fullShare f : sProp 𝕄)
      = bigSep Finset.univ fun c : Dev nD => bigSep Finset.univ fun k : Fin 4 => cT t c k fullShare f := by
  rw [← bigSep_univ_prod (fun y : Fin 4 × Dev nD => (cT t y.2 y.1 fullShare f : sProp 𝕄)), ← bigSep_univ_prod (fun y : Dev nD × Fin 4 => (cT t y.1 y.2 fullShare f : sProp 𝕄)),
    bigSep_univ_equiv (Equiv.prodComm (Dev nD) (Fin 4)) (fun y : Fin 4 × Dev nD => (cT t y.2 y.1 fullShare f : sProp 𝕄))]
  rfl

section
variable (d : Dev nD)

/-- The finished chunk of every stream from its two shares; -/
theorem own_join (f : OBuf F) : (bigSep Finset.univ fun y : Fin 4 × Bool => cT d (own y.1 d) y.1 (shr y.2) f : sProp 𝕄) = bigSep Finset.univ fun k : Fin 4 => cT d (own k d) k fullShare f := by
  rw [both]; exact bigSep_congr fun k _ => (cT_shr d (own k d) k f).symm
/-- the last chunk from the two halves received; -/
theorem op_join (f : OBuf F) : (bigSep Finset.univ fun y : Fin 4 × Bool => hT d (op (own y.1 d)) (sl y.2) y.1 f : sProp 𝕄) = bigSep Finset.univ fun k : Fin 4 => cT d (op (own k d)) k fullShare f := by
  rw [both]; exact bigSep_congr fun k _ => (cT_sl d (op (own k d)) k true f).symm
/-- the others from the half forwarded and the half kept; -/
theorem nxo_join (f : OBuf F) : (iprop((bigSep Finset.univ fun y : Fin 4 × Bool => hT d (nxo y.1 y.2 d) (sl y.2) y.1 f) ∗ bigSep Finset.univ fun y : Fin 4 × Bool => hT d (nxo y.1 y.2 d) (sl (!y.2)) y.1 f) : sProp 𝕄)
    = bigSep Finset.univ fun y : Fin 4 × Bool => cT d (nxo y.1 y.2 d) y.1 fullShare f := by
  rw [gather]; exact bigSep_congr fun y _ => (cT_sl d (nxo y.1 y.2 d) y.1 y.2 f).symm
/-- and the result from all of them. -/
theorem out_join (f : OBuf F) :
    iprop((bigSep Finset.univ fun k : Fin 4 => cT d (own k d) k fullShare f) ∗ (bigSep Finset.univ fun y : Fin 4 × Bool => cT d (nxo y.1 y.2 d) y.1 fullShare f)
      ∗ (bigSep Finset.univ fun k : Fin 4 => cT d (op (own k d)) k fullShare f)) ⊢ (((d : Thread nD τ).loc cc0_stg2_0) ↦{fullShare} f : sProp 𝕄) := by
  rw [both, gather, gather, out_chunks, bigSep_congr (fun c _ => fT_chunks d c f), ← chunks_swap]
  have hk (k : Fin 4) : iprop(cT d (own k d) k fullShare f ∗ (cT d (nxo k true d) k fullShare f ∗ cT d (nxo k false d) k fullShare f) ∗ cT d (op (own k d)) k fullShare f)
      ⊢ (bigSep Finset.univ fun c : Dev nD => cT d c k fullShare f : sProp 𝕄) := by
    rw [bigSep_four (own k d) (nxo k true d) (nxo k false d) (op (own k d)) (by revert k d; decide +kernel) (by revert k d; decide +kernel)]
    iintro ⟨H1, ⟨H2, H3⟩, H4⟩
    isplitl [H1]; · iexact H1
    isplitl [H2]; · iexact H2
    isplitl [H3] <;> iassumption
  exact bigSep_mono fun k _ => hk k

theorem scrA_all : (bigSep Finset.univ fun y : Fin 4 × Bool => At d y.1 (sl y.2)) ⊢ (iprop(∃ f : ABuf F, ((d : Thread nD τ).loc cc0_scratch0) ↦{fullShare} f) : sProp 𝕄) := by
  have h := scrA_join (F := F) (Ix := Unit) (Name := ℕ) (Lvl := ℕ) (U := UU) d
  rw [by_slot] at h; exact h
theorem scrB_all : (bigSep Finset.univ fun y : Fin 4 × Bool => Bt d y.1 (sl y.2)) ⊢ (iprop(∃ f : BBuf F, ((d : Thread nD τ).loc cc0_scratch1) ↦{fullShare} f) : sProp 𝕄) := by
  have h := scrB_join (F := F) (Ix := Unit) (Name := ℕ) (Lvl := ℕ) (U := UU) d
  rw [by_slot] at h; exact h

/-- What a device starts its operations with. -/
def pre (f : OBuf F) : sProp 𝕄 :=
  iprop(inT xs ws d ∗ (((d : Thread nD τ).loc cc0_stg2_0) ↦{fullShare} f)
    ∗ (bigSep Finset.univ fun y : Fin 4 × Bool => At (nb y.2 d) y.1 (sl y.2)) ∗ (bigSep Finset.univ fun y : Fin 4 × Bool => Bt (nb y.2 d) y.1 (sl y.2))
    ∗ (bigSep Finset.univ fun x : Xfer => tok d x) ∗ (bigSep Finset.univ fun x : Xfer => wtr d (false, x))
    ∗ (bigSep Finset.univ fun x : Xfer => atPos ER (snt d x) 0 ∅ 0) ∗ Ow d sched)
/-- What it ends with. -/
def post : sProp 𝕄 :=
  iprop(inT xs ws d ∗ (((d : Thread nD τ).loc cc0_stg2_0) ↦{fullShare} pZ xs ws)
    ∗ (∃ f : ABuf F, ((d : Thread nD τ).loc cc0_scratch0) ↦{fullShare} f) ∗ (∃ f : BBuf F, ((d : Thread nD τ).loc cc0_scratch1) ↦{fullShare} f)
    ∗ (bigSep Finset.univ fun x : Xfer => semVal (rcv d x) 0) ∗ (bigSep Finset.univ fun x : Xfer => semVal (snt d x) 0) ∗ Ow d [])

/-! ## The stages over all streams -/

theorem loop2 : Does xs ws K d iprop(bigSep Finset.univ (P2 xs ws d) ∗ Ow d sched2) (ord2.flatMap fun y => [rcv1 y.1 y.2 d, add y.1 y.2 d, snd2 y.1 y.2 d])
    iprop(bigSep Finset.univ (Q2 d) ∗ Ow d sched3) := by
  rw [bigSep_univ_eq_bigSepL ord2 (by decide +kernel) (by decide +kernel), bigSep_univ_eq_bigSepL ord2 (by decide +kernel) (by decide +kernel)]
  exact Does.loop 1 (S 1) _ _ _ (fun i y hy => by rw [List.mem_singleton.mp hy]; exact Nat.le_refl 1) (fun y l hl => stage2 xs ws K d y l hl) ord2 sched3 (by decide +kernel)
theorem SS_from (p k : Fin 4) : From p.val (SS p k) := by revert p k; decide +kernel
theorem loop3 : Does xs ws K d iprop(bigSep Finset.univ (P3 xs ws d) ∗ Ow d sched3) (ord3.flatMap (st3 d)) iprop(bigSep Finset.univ (Q3 d) ∗ Ow d sched4) := by
  rw [bigSep_univ_eq_bigSepL ord3 (by decide +kernel) (by decide +kernel), bigSep_univ_eq_bigSepL ord3 (by decide +kernel) (by decide +kernel)]
  exact Does.loop 2 (SS 2) _ _ _ (SS_from 2) (fun y l hl => stage3 xs ws K d y l hl) ord3 sched4 (by decide +kernel)
theorem loop4 : Does xs ws K d iprop(bigSep Finset.univ (P4 d) ∗ Ow d sched4) (ord3.flatMap (st4 d)) iprop(bigSep Finset.univ (Q4 xs ws d) ∗ Ow d []) := by
  rw [bigSep_univ_eq_bigSepL ord3 (by decide +kernel) (by decide +kernel), bigSep_univ_eq_bigSepL ord3 (by decide +kernel) (by decide +kernel)]
  exact Does.loop 3 (SS 3) _ _ _ (SS_from 3) (fun y l hl => stage4 xs ws K d y l hl) ord3 [] (by decide +kernel)
/-- The stages that start no transfer. -/
theorem loop_rest {I : Type} [Fintype I] [DecidableEq I] (is : List I) (h : (Finset.univ : Finset I) = is.toFinset) (hn : is.Nodup) (a : I → Act F) (P Q : I → sProp 𝕄)
    (hs : ∀ i, Does xs ws K d iprop(P i ∗ Ow d []) [a i] iprop(Q i ∗ Ow d [])) :
    Does xs ws K d iprop(bigSep Finset.univ P ∗ Ow d []) (is.flatMap fun i => [a i]) iprop(bigSep Finset.univ Q ∗ Ow d []) := by
  rw [bigSep_univ_eq_bigSepL is h hn, bigSep_univ_eq_bigSepL is h hn]
  have hl : From 5 [] := fun y hy => absurd hy List.not_mem_nil
  have := Does.loop (xs := xs) (ws := ws) (K := K) (d := d) 5 (fun _ => []) (fun i => [a i]) P Q (fun _ => hl) (fun i l hl' => ?_) is [] hl
  · rw [show is.flatMap (fun _ : I => ([] : List Xfer)) = [] from List.flatMap_eq_nil_iff.mpr fun _ _ => rfl] at this
    exact this
  · have e : l = [] := by
      rcases l with _ | ⟨y, l⟩
      · rfl
      · have := hl' y List.mem_cons_self; have := y.2.1.isLt; omega
    subst e; exact hs i

/-- All the products and the first sends. -/
theorem first_part (f : OBuf F) :
    Does xs ws K d iprop(inT xs ws d ∗ (((d : Thread nD τ).loc cc0_stg2_0) ↦{fullShare} f) ∗ bigSep Finset.univ (R1 d) ∗ Ow d sched0)
      (([gemmH (lf d) 0] ++ (lst 0).flatMap fun y => [snd1 y.1 y.2 d]) ++ (([gemmH (rt d) 1] ++ (lst 1).flatMap fun y => [snd1 y.1 y.2 d])
        ++ [gemmF d, gemmF (op d), gemmH (rt d) 0, gemmH (lf d) 1]))
      iprop(inT xs ws d ∗ bigSep Finset.univ (Q1 d) ∗ (bigSep Finset.univ fun y : Fin 4 × Bool => cT d (tgt y.1 y.2 d) y.1 fullShare (pG xs ws d))
        ∗ (bigSep Finset.univ fun k : Fin 4 => cT d (own k d) k fullShare (pG xs ws d)) ∗ Ow d sched2) := by
  intro r Φ
  rw [lst_split (R1 d), lst_split (Q1 d), out_chunks, bigSep_four (lf d) (rt d) d (op d) (by revert d; decide +kernel) (by revert d; decide +kernel), fT_wides d (lf d), fT_wides d (rt d),
    bigSep_two 0 1 (by decide) (by decide), bigSep_two 0 1 (by decide) (by decide), List.append_assoc, List.append_assoc]
  iintro ⟨#HR, Hi, ⟨⟨HL0, HL1⟩, ⟨HR0, HR1⟩, Hd, Ho⟩, ⟨Ha, Hb⟩, Hw⟩ Hk
  iapply (start1 xs ws K d 0 (lf d) (lf_far d) (fun h => by revert d h; decide +kernel) f sched1 (fun _ _ => Nat.zero_le _) _ Φ) $$ [Hi HL0 Ha Hw]
  · isplitr; · iexact HR
    isplitl [Hi]; · iexact Hi
    isplitl [HL0]; · iexact HL0
    isplitl [Ha] <;> iassumption
  iintro ⟨Hi, Ha, Hw⟩
  iapply (start1 xs ws K d 1 (rt d) (rt_far d) (fun h => by revert d h; decide +kernel) f sched2 (fun _ _ => Nat.zero_le _) _ Φ) $$ [Hi HR1 Hb Hw]
  · isplitr; · iexact HR
    isplitl [Hi]; · iexact Hi
    isplitl [HR1]; · iexact HR1
    isplitl [Hb] <;> iassumption
  iintro ⟨Hi, Hb, Hw⟩
  iapply (rest_products xs ws K d f r Φ) $$ [Hi Hd Ho HR0 HL1]
  · isplitr; · iexact HR
    isplitl [Hi]; · iexact Hi
    isplitl [Hd]; · iexact Hd
    isplitl [Ho]; · iexact Ho
    isplitl [HR0] <;> iassumption
  iintro ⟨Hi, Hd, Ho, HR0, HL1⟩
  iapply Hk
  isplitl [Hi]; · iexact Hi
  isplitl [Ha Hb]
  · isplitl [Ha] <;> iassumption
  isplitl [Hd Ho]
  · iapply (tgt_chunks d (pG xs ws d))
    isplitl [Hd] <;> iassumption
  isplitl [HR0 HL1]
  · iapply (own_chunks d (pG xs ws d))
    isplitl [HR0] <;> iassumption
  iexact Hw

/-! ## What the stages start from and leave, piece by piece -/

theorem R1_all : (bigSep Finset.univ (R1 d) : sProp 𝕄)
    = iprop((bigSep Finset.univ fun y : Fin 4 × Bool => At (nb y.2 d) y.1 (sl y.2)) ∗ bigSep Finset.univ fun y : Fin 4 × Bool => tok d (y.1, 0, y.2)) := by
  rw [gather]; rfl
theorem Q1_all : (bigSep Finset.univ (Q1 d) : sProp 𝕄) = bigSep Finset.univ fun y : Fin 4 × Bool => cred (tallyAt (snt d (y.1, 0, y.2)) () (nX 0)) := rfl
theorem P2_all : (bigSep Finset.univ (P2 xs ws d) : sProp 𝕄)
    = iprop((bigSep Finset.univ fun y : Fin 4 × Bool => wtr d (false, (y.1, 0, y.2))) ∗ (bigSep Finset.univ fun y : Fin 4 × Bool => cT d (tgt y.1 y.2 d) y.1 fullShare (pG xs ws d))
      ∗ (bigSep Finset.univ fun y : Fin 4 × Bool => Bt (nb y.2 d) y.1 (sl y.2)) ∗ bigSep Finset.univ fun y : Fin 4 × Bool => tok d (y.1, 1, y.2)) := by
  rw [gather, gather, gather]; rfl
theorem Q2_all : (bigSep Finset.univ (Q2 d) : sProp 𝕄)
    = iprop((bigSep Finset.univ fun y : Fin 4 × Bool => At d y.1 (sl y.2)) ∗ (bigSep Finset.univ fun y : Fin 4 × Bool => semVal (rcv d (y.1, 0, y.2)) 0)
      ∗ (bigSep Finset.univ fun y : Fin 4 × Bool => cred (tallyAt (snt d (y.1, 1, y.2)) () (nX 1)))
      ∗ bigSep Finset.univ fun y : Fin 4 × Bool => stay y.1 (Ht (nb (!y.2) d) y.1 (hx y.1 y.2))) := by
  rw [gather, gather, gather]; rfl
theorem P3_all : (bigSep Finset.univ (P3 xs ws d) : sProp 𝕄)
    = iprop((bigSep Finset.univ fun y : Fin 4 × Bool => wtr d (false, (y.1, 1, y.2))) ∗ (bigSep Finset.univ fun k : Fin 4 => cT d (own k d) k fullShare (pG xs ws d))
      ∗ bigSep Finset.univ fun y : Fin 4 × Bool => tok d (y.1, 2, y.2)) := by
  rw [both, both, gather, gather]; rfl
theorem Q3_all : (bigSep Finset.univ (Q3 d) : sProp 𝕄)
    = iprop((bigSep Finset.univ fun y : Fin 4 × Bool => Bt d y.1 (sl y.2)) ∗ (bigSep Finset.univ fun y : Fin 4 × Bool => semVal (rcv d (y.1, 1, y.2)) 0)
      ∗ bigSep Finset.univ fun y : Fin 4 × Bool => cred (tallyAt (snt d (y.1, 2, y.2)) () (nX 2))) := by
  rw [both, both, both, gather, gather]; rfl
theorem P4_all : (bigSep Finset.univ (P4 d) : sProp 𝕄)
    = iprop((bigSep Finset.univ fun y : Fin 4 × Bool => wtr d (false, (y.1, 2, y.2))) ∗ (bigSep Finset.univ fun y : Fin 4 × Bool => tok d (y.1, 3, y.2))
      ∗ bigSep Finset.univ fun y : Fin 4 × Bool => stay y.1 (Ht (nb (!y.2) d) y.1 (hx y.1 y.2))) := by
  rw [both, both, both, gather, gather]; rfl
theorem Q4_all : (bigSep Finset.univ (Q4 xs ws d) : sProp 𝕄)
    = iprop((bigSep Finset.univ fun y : Fin 4 × Bool => hT d (nxo y.1 y.2 d) (sl (!y.2)) y.1 (pZ xs ws)) ∗ (bigSep Finset.univ fun y : Fin 4 × Bool => semVal (rcv d (y.1, 2, y.2)) 0)
      ∗ bigSep Finset.univ fun y : Fin 4 × Bool => cred (tallyAt (snt d (y.1, 3, y.2)) () (nX 3))) := by
  rw [both, both, both, gather, gather]; rfl
theorem Q5_all : (bigSep Finset.univ (Q5 xs ws d) : sProp 𝕄)
    = iprop((bigSep Finset.univ fun y : Fin 4 × Bool => semVal (rcv d (y.1, 3, y.2)) 0) ∗ bigSep Finset.univ fun y : Fin 4 × Bool => hT d (op (own y.1 d)) (sl y.2) y.1 (pZ xs ws)) := by
  rw [gather]; rfl
theorem Q6_all : (bigSep Finset.univ (Q6 xs ws d) : sProp 𝕄)
    = iprop((bigSep Finset.univ fun x : Xfer => semVal (snt d x) 0) ∗ bigSep Finset.univ fun x : Xfer => sendPay xs ws d x) := by
  rw [gather]; rfl
theorem sent_all : (bigSep Finset.univ fun x : Xfer => (wtr d (true, x) : sProp 𝕄))
    = iprop((bigSep Finset.univ fun x : Xfer => atPos ER (snt d x) 0 ∅ 0) ∗ bigSep Finset.univ fun x : Xfer => cred (tallyAt (snt d x) () (nX x.2.1))) := by
  rw [gather]; rfl

theorem drop_emp (P : sProp 𝕄) : iprop((bigSep Finset.univ fun _ : Fin 4 × Bool => (iprop(emp) : sProp 𝕄)) ∗ P) ⊢ P := by
  iintro ⟨_, H⟩; iexact H

/-- What the finished sends give back: the reduced chunks' shares and the forwarded halves. -/
theorem sent_back : (bigSep Finset.univ fun x : Xfer => sendPay xs ws d x) ⊢
    (iprop((bigSep Finset.univ fun y : Fin 4 × Bool => cT d (own y.1 d) y.1 (shr y.2) (pZ xs ws))
      ∗ bigSep Finset.univ fun y : Fin 4 × Bool => hT d (nxo y.1 y.2 d) (sl y.2) y.1 (pZ xs ws)) : sProp 𝕄) := by
  rw [steps]
  exact (drop_emp _).trans (drop_emp _)

theorem ops_parts : ops (F := F) d = (([gemmH (lf d) 0] ++ (lst 0).flatMap fun y => [snd1 y.1 y.2 d]) ++ (([gemmH (rt d) 1] ++ (lst 1).flatMap fun y => [snd1 y.1 y.2 d])
        ++ [gemmF d, gemmF (op d), gemmH (rt d) 0, gemmH (lf d) 1]))
    ++ ((ord2.flatMap fun y => [rcv1 y.1 y.2 d, add y.1 y.2 d, snd2 y.1 y.2 d])
    ++ ((ord3.flatMap (st3 d)) ++ ((ord3.flatMap (st4 d)) ++ ((ord5.flatMap fun y => [rcv4 y.1 y.2 d]) ++ (ord6.flatMap fun x => [fin d x]))))) := rfl

/-- The whole of the operations. -/
theorem all_ops (f : OBuf F) : Does xs ws K d (pre xs ws d f) (ops d) (post xs ws d) := by
  intro r Φ
  unfold pre post
  rw [ops_parts, sched_eq, steps (fun x => tok d x), steps (fun x => wtr d (false, x)), steps (fun x : Xfer => semVal (rcv d x) 0)]
  iintro ⟨#HR, Hi, Ho, HA, HB, ⟨T0, T1, T2, T3⟩, ⟨W0, W1, W2, W3⟩, Hat, Hw⟩ Hk
  rw [List.append_assoc]
  iapply (first_part xs ws K d f _ Φ) $$ [Hi Ho HA T0 Hw]
  · isplitr; · iexact HR
    isplitl [Hi]; · iexact Hi
    isplitl [Ho]; · iexact Ho
    isplitl [HA T0]
    · rw [R1_all]
      isplitl [HA] <;> iassumption
    iexact Hw
  rw [Q1_all]
  iintro ⟨Hi, C0, Ht, Hc, Hw⟩
  rw [List.append_assoc]
  iapply (loop2 xs ws K d _ Φ) $$ [W0 Ht HB T1 Hw]
  · isplitr; · iexact HR
    rw [P2_all]
    isplitr [Hw]
    · isplitl [W0]; · iexact W0
      isplitl [Ht]; · iexact Ht
      isplitl [HB] <;> iassumption
    iexact Hw
  rw [Q2_all]
  iintro ⟨⟨HA, Z0, C1, Hs⟩, Hw⟩
  rw [List.append_assoc]
  iapply (loop3 xs ws K d _ Φ) $$ [W1 Hc T2 Hw]
  · isplitr; · iexact HR
    rw [P3_all]
    isplitr [Hw]
    · isplitl [W1]; · iexact W1
      isplitl [Hc] <;> iassumption
    iexact Hw
  rw [Q3_all]
  iintro ⟨⟨HB, Z1, C2⟩, Hw⟩
  rw [List.append_assoc]
  iapply (loop4 xs ws K d _ Φ) $$ [W2 T3 Hs Hw]
  · isplitr; · iexact HR
    rw [P4_all]
    isplitr [Hw]
    · isplitl [W2]; · iexact W2
      isplitl [T3] <;> iassumption
    iexact Hw
  rw [Q4_all]
  iintro ⟨⟨Hn, Z2, C3⟩, Hw⟩
  rw [List.append_assoc]
  iapply (loop_rest xs ws K d ord5 (by decide +kernel) (by decide +kernel) _ _ _ (fun y => stage5 xs ws K d y) _ Φ) $$ [W3 Hw]
  · isplitr; · iexact HR
    isplitl [W3]; · iexact W3
    iexact Hw
  rw [Q5_all]
  iintro ⟨⟨Z3, Hop⟩, Hw⟩
  iapply (loop_rest xs ws K d ord6 (by decide +kernel) (by decide +kernel) _ _ _ (fun x => stage6 xs ws K d x) _ Φ) $$ [Hat C0 C1 C2 C3 Hw]
  · isplitr; · iexact HR
    rw [sent_all, steps (fun x : Xfer => cred (tallyAt (snt d x) () (nX x.2.1)))]
    isplitr [Hw]
    · isplitl [Hat]; · iexact Hat
      isplitl [C0]; · iexact C0
      isplitl [C1]; · iexact C1
      isplitl [C2] <;> iassumption
    iexact Hw
  rw [Q6_all]
  iintro ⟨⟨Zs, Hb⟩, Hw⟩
  ihave Hb := (sent_back xs ws d) $$ Hb
  icases Hb with ⟨Hown, Hfw⟩
  ihave Hown := (Entails.of_eq (own_join d (pZ xs ws))) $$ Hown
  ihave Hop := (Entails.of_eq (op_join d (pZ xs ws))) $$ Hop
  iapply Hk
  isplitl [Hi]; · iexact Hi
  isplitl [Hown Hfw Hn Hop]
  · iapply (out_join d (pZ xs ws))
    isplitl [Hown]; · iexact Hown
    isplitr [Hop]
    · rw [← nxo_join]
      isplitl [Hfw] <;> iassumption
    iexact Hop
  isplitl [HA]; · iapply (scrA_all d) $$ HA
  isplitl [HB]; · iapply (scrB_all d) $$ HB
  isplitl [Z0 Z1 Z2 Z3]
  · isplitl [Z0]; · iexact Z0
    isplitl [Z1]; · iexact Z1
    isplitl [Z2] <;> iassumption
  isplitl [Zs] <;> iassumption

end

end Cert.Fused

end
-- ==== Proof.Device.lean ====
/- One device from the handshake to the end, and the kernel's proof data. -/
module

public import proofs.«01_k».proof.Proof.Whole
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The handshake -/

section Shake
variable (xs : Dev nD → XBuf F) (ws : Dev nD → WBuf F)
variable (K : Dev nD × CI → ℕ) (d : Dev nD)

/-- The landing buffers, handed over slot by slot to the two neighbours; -/
theorem slots_out (fa : ABuf F) (fb : BBuf F) :
    iprop((((d : Thread nD τ).loc cc0_scratch0) ↦{fullShare} fa) ∗ (((d : Thread nD τ).loc cc0_scratch1) ↦{fullShare} fb))
      ⊢ (iprop(barPay (lf d) false ∗ barPay (rt d) true) : sProp 𝕄) := by
  have ha (y : Fin 4 × Bool) : (aT d y.1 (sl y.2) fa : sProp 𝕄) ⊢ At d y.1 (sl y.2) := by
    unfold At; iintro H; iexists fa; iexact H
  have hb (y : Fin 4 × Bool) : (bT d y.1 (sl y.2) fb : sProp 𝕄) ⊢ Bt d y.1 (sl y.2) := by
    unfold Bt; iintro H; iexists fb; iexact H
  have h1 : (bigSep Finset.univ fun y : Fin 4 × Bool => aT d y.1 (sl y.2) fa) ⊢ (bigSep Finset.univ fun k : Fin 4 => iprop(At d k (sl true) ∗ At d k (sl false)) : sProp 𝕄) :=
    (bigSep_mono fun y _ => ha y).trans (Entails.of_eq (both _))
  have h2 : (bigSep Finset.univ fun y : Fin 4 × Bool => bT d y.1 (sl y.2) fb) ⊢ (bigSep Finset.univ fun k : Fin 4 => iprop(Bt d k (sl true) ∗ Bt d k (sl false)) : sProp 𝕄) :=
    (bigSep_mono fun y _ => hb y).trans (Entails.of_eq (both _))
  have el : nb false (lf d) = d := nb_back true d
  have er : nb true (rt d) = d := nb_back false d
  unfold barPay
  rw [scrA_split, scrB_split, by_slot, by_slot, el, er, bigSep_sep', bigSep_sep']
  iintro ⟨Ha, Hb⟩
  rw [bigSep_sep'] at h1 h2
  ihave Ha := h1 $$ Ha
  ihave Hb := h2 $$ Hb
  icases Ha with ⟨A1, A0⟩
  icases Hb with ⟨B1, B0⟩
  isplitl [A0 B0]
  · isplitl [A0] <;> iassumption
  isplitl [A1] <;> iassumption
/-- and the neighbours' slots received. -/
theorem slots_in : iprop(barPay d true ∗ barPay d false) ⊢
    (iprop((bigSep Finset.univ fun y : Fin 4 × Bool => At (nb y.2 d) y.1 (sl y.2)) ∗ bigSep Finset.univ fun y : Fin 4 × Bool => Bt (nb y.2 d) y.1 (sl y.2)) : sProp 𝕄) := by
  unfold barPay
  rw [both, both, bigSep_sep', bigSep_sep', bigSep_sep', bigSep_sep']
  iintro ⟨⟨A1, B1⟩, A0, B0⟩
  isplitl [A1 A0]
  · isplitl [A1] <;> iassumption
  isplitl [B1] <;> iassumption

/-- The rights a device starts with: to signal both neighbours and to wait for both, to make its transfers, and to wait for them. -/
def rights : sProp 𝕄 :=
  iprop((dutyTok ER (bar (lf d)) 0 false ∗ dutyTok ER (bar (rt d)) 0 true) ∗ (bigSep Finset.univ fun x : Xfer => tok d x)
    ∗ (atPos ER (bar d) 0 ∅ 0 ∗ bigSep Finset.univ fun y : Bool × Xfer => atPos ER (cell d (some y)) 0 ∅ 0))
/-- The units other devices owe it. -/
def dues : sProp 𝕄 := iprop(cred (tallyAt (bar d) () 2) ∗ bigSep Finset.univ fun x : Xfer => cred (tallyAt (rcv d x) () (nX x.2.1)))

theorem by_side (Φ : Bool × Xfer → sProp 𝕄) : bigSep Finset.univ Φ = iprop((bigSep Finset.univ fun x : Xfer => Φ (true, x)) ∗ bigSep Finset.univ fun x : Xfer => Φ (false, x)) := by
  rw [bigSep_univ_prod, bigSep_univ_eq_bigSepL [true, false] (by decide) (by decide), bigSepL_cons_cons, bigSepL_singleton]; rfl

theorem bar_mem (b : Bool) : b ∈ (Rd (F := F) xs ws).duties ((d : Thread nD τ), SemLoc.reg barS) 0 := by
  show b ∈ (Rd (F := F) xs ws).duties (bar d) 0
  rw [duties_bar]; exact Finset.mem_univ _
theorem bar_pay (b : Bool) : (barPay d b : sProp 𝕄) ⊢ (Rd xs ws).payload ((d : Thread nD τ), SemLoc.reg barS) 0 b :=
  Entails.of_eq (payload_cell xs ws d none 0 b).symm
theorem bar_rest : bigSep ((Rd xs ws).duties ((d : Thread nD τ), SemLoc.reg barS) 0 \ ∅) (fun b => (Rd xs ws).payload ((d : Thread nD τ), SemLoc.reg barS) 0 b)
    ⊢ (iprop(barPay d true ∗ barPay d false) : sProp 𝕄) := Entails.of_eq (rest_bar xs ws d)

/-- The kernel on one device, from its inputs and both landing buffers to the finished result with every semaphore at zero. -/
theorem device (f : OBuf F) (fa : ABuf F) (fb : BBuf F) (W : Waits sig Unit) (Φ : PUnit → sProp 𝕄) :
    iprop((Rec xs ws K ∗ rights d ∗ dues d ∗ inT xs ws d ∗ (((d : Thread nD τ).loc cc0_stg2_0) ↦{fullShare} f)
        ∗ (((d : Thread nD τ).loc cc0_scratch0) ↦{fullShare} fa) ∗ (((d : Thread nD τ).loc cc0_scratch1) ↦{fullShare} fb)
        ∗ owes (d : Thread nD τ) (owed₀ d) W) ∗ (iprop(post xs ws d ∗ semVal (bar d) 0) -∗ Φ ⟨⟩))
      ⊢ wp frame (wpE (defs₀ (F := F)) 𝒱₀ (d : Thread nD τ) none) Set.univ
          (cc0_body xM (Memref.isWhole_whole _) wM (Memref.isWhole_whole _) oM (Memref.isWhole_whole _) aM (Memref.isWhole_whole _) bM (Memref.isWhole_whole _) cc0_scratch2 cc0_scratch3) Φ := by
  rw [body_eq]
  simp only [semSignalWord, semWaitWord, Prog.lift, Prog.bind_op, Prog.bind_ret, Prog.pure_eq_ret, wp_deviceId]
  unfold rights dues owed₀
  rw [by_side]
  iintro ⟨⟨#HR, ⟨⟨Hl, Hr⟩, Ht, Hat, Has, Haf⟩, ⟨Hc, Hcs⟩, Hi, Ho, Ha, Hb, Hw⟩, Hk⟩
  ihave Hs := (slots_out d fa fb) $$ [Ha Hb]
  · isplitl [Ha] <;> iassumption
  icases Hs with ⟨Sl, Sr⟩
  iapply (Rounds.wp_signal 𝒱₀ ER (Rd xs ws) (d : Thread nD τ) none (dst := (lf d : Thread nD τ)) (κ := K (lf d, none))
      (d := false) (bar_mem xs ws (lf d) false) ((amount_cell xs ws (lf d) none 0 false).trans (by decide)) () (owed₁ d) rfl)
    $$ [Hw Hl Sl]
  · isplitr; · iapply (Rec_inv xs ws K (lf d) none); iexact HR
    isplitl [Hw]; · iexact Hw
    isplitl [Hl]; · iexact Hl
    isplitl [Sl]
    · iapply (bar_pay xs ws (lf d) false) $$ Sl
    iapply (Rec_reached xs ws K (lf d) none); iexact HR
  iintro Hw
  unfold owed₁
  iapply (Rounds.wp_signal 𝒱₀ ER (Rd xs ws) (d : Thread nD τ) none (dst := (rt d : Thread nD τ)) (κ := K (rt d, none))
      (d := true) (bar_mem xs ws (rt d) true) ((amount_cell xs ws (rt d) none 0 true).trans (by decide)) () (owedL d sched) rfl)
    $$ [Hw Hr Sr]
  · isplitr; · iapply (Rec_inv xs ws K (rt d) none); iexact HR
    isplitl [Hw]; · iexact Hw
    isplitl [Hr]; · iexact Hr
    isplitl [Sr]
    · iapply (bar_pay xs ws (rt d) true) $$ Sr
    iapply (Rec_reached xs ws K (rt d) none); iexact HR
  iintro Hw
  iapply (Rounds.wp_wait_rest_token 𝒱₀ ER (Rd xs ws) (d : Thread nD τ) none (κ := K (d, none))
      (wpE_semWait_eq 𝒱₀ (d : Thread nD τ) none Set.univ) (Set.mem_univ _) () (O := owedL d sched) (W := W) (R := 0) (m := 0) (T := ∅)
      (expect_bar xs ws d).symm) $$ [Hc Hw Hat]
  · isplitr; · iapply (Rec_inv xs ws K d none); iexact HR
    isplitl [Hc]; · iexact Hc
    isplitl [Hw]; · iexact Hw
    isplitr; · iapply (mayWait d none sched (by decide +kernel)); iapply (Rec_lev xs ws K); iexact HR
    iexact Hat
  iintro ⟨Hw, Hat, -, Hp⟩
  ihave Hp := (bar_rest xs ws d) $$ Hp
  ihave Hp := (slots_in d) $$ Hp
  icases Hp with ⟨HA, HB⟩
  imod (Rounds.cell_close ER (Rd xs ws) (Set.mem_univ (K (d, none))) (fun h => h) (R := 0 + 1) (duties_later xs ws (bar d))) $$ [Hat] with Hz
  · isplitr; · iapply (Rec_inv xs ws K d none); iexact HR
    iexact Hat
  rw [← List.append_nil (ops d)]
  iapply (all_ops xs ws K d f [] Φ) $$ [Hi Ho HA HB Ht Haf Hcs Has Hw]
  · isplitr; · iexact HR
    unfold pre wtr Ow
    isplitl [Hi]; · iexact Hi
    isplitl [Ho]; · iexact Ho
    isplitl [HA]; · iexact HA
    isplitl [HB]; · iexact HB
    isplitl [Ht]; · iexact Ht
    isplitl [Haf Hcs]
    · rw [bigSep_sep']
      isplitl [Haf] <;> iassumption
    isplitl [Has]; · iexact Has
    iexists _; iexact Hw
  iintro Hp
  rw [show run ([] : List (Act F)) = Prog.ret ⟨⟩ from rfl, wp_ret]; imodintro
  iapply Hk
  isplitl [Hp] <;> iassumption

end Shake

/-! ## The proof data -/

section Data
variable (m : (ℓ : Loc nD τ sig) → Buf (Elt F) ℓ) (ρ : Dev nD → PrngReg)

abbrev s₀ : MemSt nD τ sig (Elt F) := ⟨m, fun _ => 0, ρ⟩
/-- The devices' blocks of the two inputs. -/
def xin (c : Dev nD) : XBuf F := (win0_0.blk t0_0).view.read (Elt F) (m ((c : Thread nD τ).loc main_arg0))
def win (c : Dev nD) : WBuf F := (win0_1.blk t0_0).view.read (Elt F) (m ((c : Thread nD τ).loc main_arg1))

/-- What a device's kernel starts from: the records, its rights and what is due to it; -/
def start (c : Dev nD) : sProp 𝕄 := iprop((∃ K, Rec (xin m) (win m) K) ∗ rights c ∗ dues c)
def Φ₀ (c : Dev nD) : sProp 𝕄 :=
  iprop(start m c ∗ (∃ f : ABuf F, ((c : Thread nD τ).loc cc0_scratch0) ↦{fullShare} f) ∗ ∃ f : BBuf F, ((c : Thread nD τ).loc cc0_scratch1) ↦{fullShare} f)
/-- and what it leaves: both landing buffers and every semaphore at zero. -/
def Φ₁ (c : Dev nD) : sProp 𝕄 :=
  iprop(((∃ f : ABuf F, ((c : Thread nD τ).loc cc0_scratch0) ↦{fullShare} f) ∗ ∃ f : BBuf F, ((c : Thread nD τ).loc cc0_scratch1) ↦{fullShare} f)
    ∗ (bigSep Finset.univ fun y : Bool × Xfer => semVal (cell c (some y)) 0) ∗ semVal (bar c) 0)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => win m c
    | ⟨2, _⟩ => pZ (xin m) (win m)
  Φ t := match t with
    | ⟨0, _⟩ => Φ₀ m c
    | ⟨_ + 1, _⟩ => Φ₁ c
  q _ := fullShare
  owed t := match t with
    | ⟨0, _⟩ => owed₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ c ∗ (dats m 0 c).owesAt () t0_0.succ ∗ stg c cc0_stg0_0 (xin m c) ∗ stg c cc0_stg1_0 (win m c) ∗ stg c cc0_stg2_0 (pZ (xin m) (win m)))

/-- The kernel on device `c`, from its staged blocks to the staged result. -/
theorem sound_body (c : Dev nD) :
    bodyPre m c ⊢ wp frame (wpE (defs₀ (F := F)) 𝒱₀ (c : Thread nD τ) none) Set.univ
      (cc0_body xM (Memref.isWhole_whole _) wM (Memref.isWhole_whole _) oM (Memref.isWhole_whole _) aM (Memref.isWhole_whole _) bM (Memref.isWhole_whole _) cc0_scratch2 cc0_scratch3)
      fun _ => bodyPost m c := by
  unfold bodyPre Φ₀ start Dat.owesAt Pipeline.owesWithin
  rw [show (dats m 0 c).owed t0_0.castSucc = owed₀ c from rfl]
  iintro ⟨⟨⟨⟨%K, #HR⟩, Hr, Hd⟩, ⟨%fa, Ha⟩, ⟨%fb, Hb⟩⟩, ⟨%W, %hW, Hw⟩, ⟨%d0, %g0, %hg0, Hx⟩, ⟨%d1, %g1, %hg1, Hy⟩, ⟨%d2, %g2, %hg2, Ho⟩⟩
  have hx : g0 = xin m c := by rw [hg0]; unfold Dat.before; rw [if_pos (fetch0_0 t0_0)]; rfl
  have hy : g1 = win m c := by rw [hg1]; unfold Dat.before; rw [if_pos (fetch0_1 t0_0)]; rfl
  subst hx hy
  iapply (device (xin m) (win m) K c g2 fa fb W fun _ => bodyPost m c)
  isplitr []
  · isplitr; · iexact HR
    isplitl [Hr]; · iexact Hr
    isplitl [Hd]; · iexact Hd
    isplitl [Hx Hy]
    · unfold inT
      isplitl [Hx] <;> iassumption
    isplitl [Ho]; · iexact Ho
    isplitl [Ha]; · iexact Ha
    isplitl [Hb]; · iexact Hb
    iexact Hw
  unfold post inT Ow
  iintro ⟨⟨⟨Hx, Hy⟩, Ho, Ha, Hb, Zf, Zs, ⟨%W', Hw⟩⟩, Hz⟩
  unfold bodyPost Φ₁ Dat.owesAt Pipeline.owesWithin
  rw [show (dats m 0 c).owed t0_0.succ = 0 from rfl, by_side]
  isplitl [Ha Hb Zf Zs Hz]
  · isplitl [Ha Hb]
    · isplitl [Ha] <;> iassumption
    isplitl [Zf Zs]
    · isplitl [Zs] <;> iassumption
    iexact Hz
  isplitl [Hw]
  · iexists W'
    isplitr; · ipureintro; exact fun _ _ => Or.inl trivial
    iexact Hw
  isplitl [Hx]
  · iexists _; isplitr; · (ipureintro; rfl)
    iexact Hx
  isplitl [Hy]
  · iexists _; isplitr; · (ipureintro; rfl)
    iexact Hy
  iexists _; isplitr; · (ipureintro; rfl)
  iexact Ho

set_option maxRecDepth 16000 in
/-- The launch's obligation on the kernel. -/
theorem body_obligation (c : Dev nD) : BodyObligation (dats (F := F) m 0 c) (defs₀ (F := F)) 𝒱₀ () Set.univ := fun t => by
  rw [fin_N0 t, bigSep_W0, bigSep_W0]
  simp only [owns_stg]
  show bodyPre m c ⊢ wp frame (wpE (defs₀ (F := F)) 𝒱₀ (c : Thread nD τ) none) Set.univ
      (cc0_body xM (Memref.isWhole_whole _) wM (Memref.isWhole_whole _) oM (Memref.isWhole_whole _) aM (Memref.isWhole_whole _) bM (Memref.isWhole_whole _) cc0_scratch2 cc0_scratch3)
      fun _ => bodyPost m c
  exact sound_body m c

end Data

end Cert.Fused

end
-- ==== Proof.Launch.lean ====
/- The launch: every semaphore's record is made, the rights are dealt out, and all four devices run to the end. -/
module

public import proofs.«01_k».proof.Proof.Device
public import Idealize.ShloMosaic.Lib.Pipeline.CollectiveSegs

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The initial records -/

/-- The transfers' semaphores, the kernel's own; -/
abbrev osem (y : Bool × Xfer) : SemLoc sig := csem (some y)
theorem ownSemFacts : Pipeline.OwnSemFacts cfg0.spec osem := by decide +kernel

theorem share_eq (c : Dev nD) (w : Fin cfg0.W) : (dats m 0 c).share w = fullShare := by unfold Dat.share; split <;> rfl

theorem cell_injective : Function.Injective (fun y : Dev nD × CI => cell y.1 y.2) := fun y y' h =>
  Prod.ext (congrArg (fun g : GSem nD τ sig => g.1.1) h) (csem_injective (congrArg Prod.snd h))
def allCells : Finset (GSem nD τ sig) := Finset.univ.map ⟨_, cell_injective⟩

/-- a device's duties: the barrier's two, and one for every other semaphore. -/
abbrev Duty : Type := Bool ⊕ (Bool × Xfer)
def dutyOf (y : Dev nD × Duty) : GSem nD τ sig × ℕ × Bool := match y.2 with
  | .inl b => (bar y.1, 0, b)
  | .inr z => (cell y.1 (some z), 0, false)
theorem dutyOf_injective : Function.Injective dutyOf := by
  rintro ⟨c, i⟩ ⟨c', i'⟩ h
  have hd : c = c' := by
    have := congrArg (fun x : GSem nD τ sig × ℕ × Bool => x.1.1.1) h
    rcases i with b | z <;> rcases i' with b' | z' <;> exact this
  have hs := congrArg (fun x : GSem nD τ sig × ℕ × Bool => x.1.2) h
  have hb := congrArg (fun x : GSem nD τ sig × ℕ × Bool => x.2.2) h
  subst hd
  rcases i with b | z <;> rcases i' with b' | z'
  · exact congrArg (fun b => (c, Sum.inl b)) hb
  · exact absurd (csem_injective (a₁ := none) (a₂ := some z') hs) (Option.some_ne_none _).symm
  · exact absurd (csem_injective (a₁ := some z) (a₂ := none) hs) (Option.some_ne_none _)
  · exact congrArg (fun z => (c, Sum.inr z)) (Option.some.inj (csem_injective (a₁ := some z) (a₂ := some z') hs))
def allDuties : Finset (GSem nD τ sig × ℕ × Bool) := Finset.univ.map ⟨dutyOf, dutyOf_injective⟩

def u₀ : UU := (initOf (Pipeline.cells cfgs cellOf_inj) (Pipeline.launchToks cfgs cellOf_inj), initOf allCells allDuties)

/-- The duties of device `c`'s own semaphores. -/
def minted (c : Dev nD) : sProp 𝕄 :=
  iprop((bigSep Finset.univ fun b : Bool => dutyTok ER (bar c) 0 b) ∗ bigSep Finset.univ fun y : Bool × Xfer => dutyTok ER (cell c (some y)) 0 false)
/-- Its places. -/
def places (c : Dev nD) : sProp 𝕄 := bigSep Finset.univ fun i : CI => atPos ER (cell c i) 0 ∅ 0
/-- What the launch deals device `c`; -/
def G (c : Dev nD) : sProp 𝕄 :=
  iprop((bigSep Finset.univ fun i : CI => roundState ER (Rd (xin m) (win m)) (cell c i) 0)
    ∗ (bigSep Finset.univ fun i : CI => reached ER (cell c i) 0) ∗ places c ∗ minted c)
/-- what the devices make of it together. -/
def G' (c : Dev nD) : sProp 𝕄 := iprop((∃ K : Dev nD × CI → ℕ, (iprop((bigSep Finset.univ fun y : Dev nD × CI => cellInv ER (Rd (xin m) (win m)) (K y) (cell y.1 y.2))
    ∗ bigSep Finset.univ fun y : Dev nD × CI => reached ER (cell y.1 y.2) 0) : sProp 𝕄)) ∗ rights c)

theorem fund_all : BI.own (ER (initOf allCells allDuties)) ⊢ (|==> bigSep Finset.univ (G m) : sProp 𝕄) := by
  have hX (Φ : GSem nD τ sig → sProp 𝕄) : bigSep allCells Φ = bigSep Finset.univ fun c : Dev nD => bigSep Finset.univ fun i : CI => Φ (cell c i) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties; rw [bigSep_map, bigSep_univ_prod]
    exact bigSep_congr fun c _ => by unfold minted; rw [bigSep_univ_sum]; rfl
  iintro HX
  imod (Rounds.fund ER (Rd (xin m) (win m)) allCells allDuties) $$ HX with ⟨Hst, Hr, Hat, Htok⟩
  imodintro
  ihave Hst := (Entails.of_eq (hX fun g => roundState ER (Rd (xin m) (win m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hr]; · iexact Hr
  isplitl [Hat] <;> iassumption

/-- The barrier is the one semaphore that is not the kernel's own. -/
theorem unscopedSems0_eq (c : Dev nD) : (unscopedSems0 c : sProp 𝕄) = semVal (bar c) 0 := by
  unfold unscopedSems0; rw [bigSep_eq_bigSepL_of_eq [SemLoc.reg barS] (by decide +kernel) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun y : Bool × Xfer => semVal (cell c (some y)) 0 := rfl

/-- A family over a device's semaphores: the barrier's and the rest. -/
theorem bar_rest_split (Φ : CI → sProp 𝕄) : bigSep Finset.univ Φ = iprop(Φ none ∗ bigSep Finset.univ fun y : Bool × Xfer => Φ (some y)) := by
  rw [bigSep_univ_equiv (Equiv.optionEquivSumPUnit (Bool × Xfer)).symm Φ, bigSep_univ_sum, bigSep_univ_eq_bigSepL [(PUnit.unit : PUnit.{1})] (by decide) (by decide), bigSepL_singleton]
  exact BI.Entails.antisymm BI.sep_comm BI.sep_comm

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd (xin m) (win m)) κ (cell c i)))
          ∗ (bigSep Finset.univ fun i : CI => reached ER (cell c i) 0) ∗ places c ∗ minted c) := by
  have ha : iprop((bigSep Finset.univ fun i : CI => semVal (cell c i) 0) ∗ bigSep Finset.univ fun i : CI => roundState ER (Rd (xin m) (win m)) (cell c i) 0)
      ⊢ (|={Set.univ}=> bigSep Finset.univ fun i : CI => iprop(∃ κ : ℕ, cellInv ER (Rd (xin m) (win m)) κ (cell c i)) : sProp 𝕄) := by
    rw [← bigSep_sep']
    exact (bigSep_mono fun i _ => (Rounds.body_intro ER (Rd (xin m) (win m)) (cell c i)).trans inv_alloc).trans (bigSep_fupd _ _)
  rw [ownSems0_eq, unscopedSems0_eq]
  unfold G
  iintro ⟨Hos, Hus, Hst, Hr, Hat, Htok⟩
  imod ha $$ [Hos Hus Hst] with Hinv
  · isplitl [Hos Hus]
    · rw [bar_rest_split]
      isplitl [Hus]; · iexact Hus
      iexact Hos
    iexact Hst
  imodintro
  isplitl [Hinv]; · iexact Hinv
  isplitl [Hr]; · iexact Hr
  isplitl [Hat] <;> iassumption

/-! ## The rights dealt around the ring -/

/-- The neighbour in a direction, one to one. -/
def nbE (b : Bool) : Dev nD ≃ Dev nD := ⟨nb b, nb (!b), nb_back b, fun d => by have := nb_back (!b) d; rwa [Bool.not_not] at this⟩

theorem around (Φ : Dev nD → Xfer → sProp 𝕄) :
    (bigSep Finset.univ fun c : Dev nD => bigSep Finset.univ fun x : Xfer => Φ c x) = bigSep Finset.univ fun c : Dev nD => bigSep Finset.univ fun x : Xfer => Φ (nb x.2.2 c) x := by
  have hs (Ψ : Dev nD → Xfer → sProp 𝕄) : (bigSep Finset.univ fun c : Dev nD => bigSep Finset.univ fun x : Xfer => Ψ c x)
      = bigSep Finset.univ fun x : Xfer => bigSep Finset.univ fun c : Dev nD => Ψ c x := by
    rw [← bigSep_univ_prod (fun y : Dev nD × Xfer => Ψ y.1 y.2), ← bigSep_univ_prod (fun y : Xfer × Dev nD => Ψ y.2 y.1),
      bigSep_univ_equiv (Equiv.prodComm Xfer (Dev nD)) (fun y : Dev nD × Xfer => Ψ y.1 y.2)]
    rfl
  rw [hs, hs]
  exact bigSep_congr fun x _ => bigSep_univ_equiv (nbE x.2.2) fun c => Φ c x

theorem deal : iprop((bigSep Finset.univ fun c : Dev nD => places c) ∗ bigSep Finset.univ fun c : Dev nD => minted c)
    ⊢ (bigSep Finset.univ fun c : Dev nD => rights c : sProp 𝕄) := by
  have hr (c : Dev nD) : (rights c : sProp 𝕄) = iprop((dutyTok ER (bar (lf c)) 0 false ∗ dutyTok ER (bar (rt c)) 0 true)
      ∗ ((bigSep Finset.univ fun x : Xfer => dutyTok ER (snt c x) 0 false) ∗ bigSep Finset.univ fun x : Xfer => dutyTok ER (rcv (nb x.2.2 c) x) 0 false) ∗ places c) := by
    unfold rights tok places; rw [bar_rest_split, bigSep_sep']
  have hm (c : Dev nD) : (minted c : sProp 𝕄) = iprop((dutyTok ER (bar c) 0 true ∗ dutyTok ER (bar c) 0 false)
      ∗ (bigSep Finset.univ fun x : Xfer => dutyTok ER (snt c x) 0 false) ∗ bigSep Finset.univ fun x : Xfer => dutyTok ER (rcv c x) 0 false) := by
    unfold minted; rw [by_side, bigSep_univ_eq_bigSepL [true, false] (by decide) (by decide), bigSepL_cons_cons, bigSepL_singleton]; rfl
  simp only [hr, hm, bigSep_sep']
  rw [around fun c x => (dutyTok ER (rcv c x) 0 false : sProp 𝕄),
    bigSep_univ_equiv (nbE false) (fun c : Dev nD => (dutyTok ER (bar c) 0 true : sProp 𝕄)),
    bigSep_univ_equiv (nbE true) (fun c : Dev nD => (dutyTok ER (bar c) 0 false : sProp 𝕄))]
  iintro ⟨Hp, ⟨Ht, Hf⟩, Hs, Hr⟩
  isplitl [Ht Hf]
  · isplitl [Hf]; · iexact Hf
    iexact Ht
  isplitl [Hs Hr]
  · isplitl [Hs] <;> iassumption
  iexact Hp

theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun i : CI => iprop(∃ κ : ℕ, cellInv ER (Rd (xin m) (win m)) κ (cell c i)))
          ∗ (bigSep Finset.univ fun i : CI => reached ER (cell c i) 0) ∗ places c ∗ minted c) : sProp 𝕄)
      ⊢ bigSep Finset.univ (G' m) := by
  rw [bigSep_sep', bigSep_sep', bigSep_sep', ← bigSep_univ_prod (fun y : Dev nD × CI => iprop(∃ κ : ℕ, cellInv ER (Rd (xin m) (win m)) κ (cell y.1 y.2))),
    ← bigSep_univ_prod (fun y : Dev nD × CI => (reached ER (cell y.1 y.2) 0 : sProp 𝕄))]
  iintro ⟨HI, #HR, Hat, Htok⟩
  ihave HK := (BI.bigSep_exists_pi Finset.univ (fun (y : Dev nD × CI) (κ : ℕ) => (cellInv ER (Rd (xin m) (win m)) κ (cell y.1 y.2) : sProp 𝕄))) $$ HI
  icases HK with ⟨%K, #HI⟩
  ihave Hd := (deal (F := F)) $$ [Hat Htok]
  · isplitl [Hat] <;> iassumption
  iapply (with_persistent (R := iprop((bigSep Finset.univ fun y : Dev nD × CI => cellInv ER (Rd (xin m) (win m)) (K y) (cell y.1 y.2))
    ∗ bigSep Finset.univ fun y : Dev nD × CI => reached ER (cell y.1 y.2) 0)) fun c => show _ ⊢ G' m c from by
      unfold G'
      iintro ⟨#H, Hr⟩
      isplitr; · iexists K; iexact H
      iexact Hr)
  isplitr
  · isplitl; · iexact HI
    iexact HR
  iexact Hd

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is due at the start -/

/-- What every device owes for a list of transfers is due to every device. -/
theorem due_list (c : Dev nD) (l : List Xfer) :
    (Pipeline.launchCred (fun d => owedL d l) c : sProp 𝕄) ⊢ bigSepL l fun x => cred (tallyAt (rcv c x) () (nX x.2.1)) := by
  induction l with
  | nil => rw [bigSepL_nil]; exact Entails.of_eq (Pipeline.launchCred_zero c)
  | cons x l ih =>
    rw [bigSepL_cons, show (fun d => owedL d (x :: l)) = fun d => owedL d l + tallyAt (rcv (nb x.2.2 d) x) () (nX x.2.1) from rfl, Pipeline.launchCred_add]
    have hx : (Pipeline.launchCred (fun d => tallyAt (rcv (nb x.2.2 d) x) () (nX x.2.1)) c : sProp 𝕄) ⊢ cred (tallyAt (rcv c x) () (nX x.2.1)) :=
      Pipeline.launchCred_tallyAt (csem (some (false, x))) (nbE x.2.2) (nbE x.2.2).symm (nbE x.2.2).apply_symm_apply (nbE x.2.2).symm_apply_apply () _ c
    have h : iprop(Pipeline.launchCred (fun d => owedL d l) c ∗ Pipeline.launchCred (fun d => tallyAt (rcv (nb x.2.2 d) x) () (nX x.2.1)) c)
        ⊢ (iprop(cred (tallyAt (rcv c x) () (nX x.2.1)) ∗ bigSepL l fun x => cred (tallyAt (rcv c x) () (nX x.2.1))) : sProp 𝕄) := by
      iintro ⟨Hl, Hx⟩
      isplitl [Hx]; · iapply hx $$ Hx
      iapply ih $$ Hl
    exact h

theorem due_bar (c : Dev nD) (b : Bool) : (Pipeline.launchCred (fun d => tallyAt (bar (nb b d)) () 1) c : sProp 𝕄) ⊢ cred (tallyAt (bar c) () 1) :=
  Pipeline.launchCred_tallyAt (csem none) (nbE b) (nbE b).symm (nbE b).apply_symm_apply (nbE b).symm_apply_apply () _ c

theorem due_all (c : Dev nD) : (Pipeline.launchCred owed₀ c : sProp 𝕄) ⊢ dues c := by
  have h2 : iprop(cred (tallyAt (bar c) () 1) ∗ cred (tallyAt (bar c) () 1)) ⊢ (cred (tallyAt (bar c) () 2) : sProp 𝕄) := by
    rw [show (tallyAt (bar c) () 2 : CellTallies nD τ sig Unit) = tallyAt (bar c) () 1 + tallyAt (bar c) () 1 from (tallyAt_add _ _ 1 1).symm]
    exact (cred_add _ _).2
  have hs : (bigSep Finset.univ fun x : Xfer => cred (tallyAt (rcv c x) () (nX x.2.1)) : sProp 𝕄) = bigSepL sched fun x => cred (tallyAt (rcv c x) () (nX x.2.1)) :=
    bigSep_univ_eq_bigSepL sched (by decide +kernel) (by decide +kernel) _
  rw [show (owed₀ : Dev nD → CellTallies nD τ sig Unit) = fun d => owed₁ d + tallyAt (bar (nb true d)) () 1 from rfl, Pipeline.launchCred_add,
    show (owed₁ : Dev nD → CellTallies nD τ sig Unit) = fun d => owedL d sched + tallyAt (bar (nb false d)) () 1 from rfl, Pipeline.launchCred_add]
  unfold dues
  rw [hs]
  iintro ⟨⟨Hl, Hr⟩, Hb⟩
  isplitl [Hr Hb]
  · iapply h2
    isplitl [Hr]
    · iapply (due_bar c false) $$ Hr
    iapply (due_bar c true) $$ Hb
  iapply (due_list c sched) $$ Hl

/-! ## The run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold start G' Rec
  iintro ⟨-, #Hlev, Hcr, -, ⟨⟨%K, #HI, #HR⟩, Hr⟩⟩
  ihave Hc := (due_all (F := F) c) $$ Hcr
  imodintro
  isplitl
  · isplitr
    · iexists K
      isplitr; · iexact HI
      isplitr; · iexact HR
      iexact Hlev
    isplitl [Hr] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨Hr, Hz, Hb⟩
  isplitl [Hb]; · iexact Hb
  isplitl [Hz]; · iexact Hz
  iexact Hr

theorem stage_low (c : Dev nD) (q : DmaSem sig) (hq : ∀ y, csem (some y) ≠ .dma q) : lv ((c : Thread nD τ), .dma q) () ≤ 0 := by
  have h : decode (.dma q) = none := by
    unfold decode Function.partialInv
    exact dif_neg fun ⟨i, hi⟩ => by
      rcases i with _ | y
      · exact absurd hi (by simp [csem])
      · exact hq y hi
  unfold lv; rw [h]

theorem waits (c : Dev nD) : (levAts L lv : sProp 𝕄) ⊢ Pipeline.cellsWaits cfgs (dats m) () 0 c :=
  Pipeline.cellsWaits_intro cfgs (dats m) () 0 c fun w s t =>
    mayWait_of c _ 0 _ (stage_low c _ fun y => ownSemFacts.disj y w s) fun g u hg => by
      rcases t with ⟨_ | _, ht⟩
      · exact owed₀_pos c hg
      · exact absurd hg (Nat.lt_irrefl 0)

def finalA (c : Dev nD) (w : Fin cfg0.W) : Buf (Elt F) ((cfg0.win w).arr.view.loc (c : Thread nD τ)) := (dats m 0 c).arrAt w cfg0.N

def Done : PUnit × MemSt nD τ sig (Elt F) → Prop := fun r =>
  ∀ c : Dev nD, ∀ w : Fin cfg0.W, r.2.mem ((cfg0.win w).arr.view.loc (c : Thread nD τ)) = finalA m c w

set_option maxRecDepth 65536 in
/-- For any float values, from any memory with every semaphore at zero, the four devices run to the end: each has the computed result, and every semaphore is at zero. -/
theorem run_main : θ_run defs (onTc (τ := τ) (main (F := F))) (s₀ m ρ) (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first input is what it was; -/
theorem final_x (c : Dev nD) : finalA m c (0 : Fin 3) = m ((c : Thread nD τ).loc main_arg0) := (dats m 0 c).arrAt_in (0 : Fin 3) rfl _
/-- so is the second; -/
theorem final_w (c : Dev nD) : finalA m c (1 : Fin 3) = m ((c : Thread nD τ).loc main_arg1) := (dats m 0 c).arrAt_in (1 : Fin 3) rfl _

end Cert.Fused

end
-- ==== Proof.Frames.lean ====
/- The devices' inputs are unchanged and every semaphore ends at zero. -/
module

public import proofs.«01_k».proof.Defs
public import proofs.«01_k».proof.Proof.Gen.Kernel
public import proofs.«01_k».proof.Proof.Launch

@[expose] public section

noncomputable section

namespace Cert.Fused

open Idealize.ShloMosaic Idealize.ShloMosaic.TcCoe Idealize.SL.Sem

variable {F : FTy → Type} [FloatOps F]

/-- For any float values: the kernel runs to the end, its inputs are unchanged, and every semaphore is at zero. -/
theorem frame (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => ⟨(h.1 c (0 : Fin 3)).trans (final_x m c), (h.1 c (1 : Fin 3)).trans (final_w m c)⟩, h.2⟩) (run_main m ρ)

/-- So does the kernel over the extended reals, -/
theorem frame_ideal : Cert.quiescent_KernelIdeal := fun m ρ _ => frame (F := Ideal) m ρ

/-- The two programs' bodies are the same. -/
theorem bodies_eq : Cert.Kernel.defs₀ (F := Bits) = Cert.KernelIdeal.defs₀ (F := Bits) := by
  refine congrArg Defs.onTc (funext fun l => funext fun a => ?_)
  fin_cases l
  rfl
theorem programs_eq : Cert.Kernel.defs (F := Bits) = Cert.KernelIdeal.defs (F := Bits) :=
  congrArg (Pipeline.defs (Cert.KernelIdeal.pcfgs (F := Bits))) bodies_eq

/-- and the compiled kernel, whose text is the same. -/
theorem frame_kernel : Cert.quiescent_Kernel := fun m ρ _ => by
  rw [programs_eq]
  exact frame (F := Bits) m ρ

end Cert.Fused

end
-- ==== Proof.Value.lean ====
/- Over the extended reals, the result every device ends with is GELU of the sum of the devices' partial products. -/
module

public import proofs.«01_k».proof.Proof.Tiles
public import Idealize.ShloMosaic.Lib.MatmulPlain
public import Idealize.ShloMosaic.PureOps.Ideal.Laws

@[expose] public section

noncomputable section

namespace Cert.Fused

open Cert.KernelIdeal Cert.KernelIdeal.Gen
open Idealize.ShloMosaic Idealize.ShloMosaic.TcCoe Idealize.ShloMosaic.ValueIdx Idealize.SL.Sem
open scoped BigOperators

variable {F : FTy → Type} [FloatOps F]

/-! ## Reading and writing pieces -/

/-- An element of a rectangle is the image of an index of it. -/
theorem under {s : Shape} {r : Rect s} {i : s.Idx} (h : i ∈ r.set) : ∃ x, r.emb x = i := by
  rw [← Rect.map_emb_univ] at h
  obtain ⟨x, -, e⟩ := Finset.mem_map.mp h
  exact ⟨x, e⟩
/-- What is written on a rectangle of the result is there. -/
theorem put (r : Rect S1024x1024) (f : OBuf F) (w : r.shape.Idx → F .f32) (x : r.shape.Idx) :
    (oM.access r).write (Elt F) f w Finset.univ (r.emb x) = w x :=
  View.write_emb_of_mem (v := oM.access r) f w (Finset.mem_univ x)
/-- A slot of the first landing buffer is read as it was written; -/
theorem slotA_read (k : Fin 4) (j : Fin 2) (f : ABuf F) (w : S128x256.Idx → F .f32) :
    shapeCast S128x256 (aM.view.readAt (Elt F) (aR k j).toLoadRect ((slotA k j).view.write (Elt F) f w Finset.univ)) shapeCasts_S1x1x128x256_S128x256 = w :=
  funext fun x => View.read_write_reshape (v := aM.access (aR k j)) squeezes_S1x1x128x256_S128x256.numel_eq f w x
/-- so is one of the second. -/
theorem slotB_read (k : Fin 4) (j : Fin 2) (f : BBuf F) (w : S256x256.Idx → F .f32) :
    shapeCast S256x256 (bM.view.readAt (Elt F) (bR k j).toLoadRect ((slotB k j).view.write (Elt F) f w Finset.univ)) shapeCasts_S1x1x256x256_S256x256 = w :=
  funext fun x => View.read_write_reshape (v := bM.access (bR k j)) squeezes_S1x1x256x256_S256x256.numel_eq f w x

/-- A chunk of the result read at an index. -/
theorem chunk_read (c : Dev nD) (k : Fin 4) (f : OBuf F) (x : S256x256.Idx) : (chunk c k).view.read (Elt F) f x = f ((chunkR c k).emb x) := rfl

/-! ## One device's partial product -/

/-- A product of two matrices, at an element. -/
def part (X : S1024x256.Idx → EReal) (W : S256x1024.Idx → EReal) (i : S1024x1024.Idx) : EReal :=
  ∑ k : Fin 256, X (ix2 (i 0) k) * W (ix2 k (i 1))

theorem sum_eq {n : ℕ} {f g : Fin n → EReal} (h : ∀ k, f k = g k) : (∑ k, f k) = ∑ k, g k := Finset.sum_congr rfl fun k _ => h k

/-- Casting to the same shape changes nothing. -/
theorem recast {α : Type} {s : Shape} (u : s.Idx → α) (h : s.ShapeCasts s) : shapeCast s u h = u :=
  funext fun x => congrArg u (Shape.reshapeEquiv_self _ x)
/-- A product computed at full width, at an element. -/
theorem pay3_at (u : Vec Ideal S256x256 .f32) (v : Vec Ideal S256x1024 .f32) (x : S256x1024.Idx) :
    k0_pay3 u v x = ∑ k : Fin 256, (u (ix2 (x 0) k) : EReal) * v (ix2 k (x 1)) := by
  unfold k0_pay3
  rw [recast, recast]
  refine (congrArg _ (eq_ix2 x)).trans ((Ideal.matmul_plain_apply none u v _ (x 0) (x 1)).trans ?_)
  exact (congrArg (· + _) Ideal.ofBits_zero_f32).trans (zero_add _)
/-- A product on half the columns, at an element. -/
theorem pay1_at (u : Vec Ideal S256x256 .f32) (v : Vec Ideal S256x512 .f32) (x : S256x512.Idx) :
    k0_pay1 u v x = ∑ k : Fin 256, (u (ix2 (x 0) k) : EReal) * v (ix2 k (x 1)) := by
  unfold k0_pay1
  rw [recast, recast]
  refine (congrArg _ (eq_ix2 x)).trans ((Ideal.matmul_plain_apply none u v _ (x 0) (x 1)).trans ?_)
  exact (congrArg (· + _) Ideal.ofBits_zero_f32).trans (zero_add _)

variable (xs : Dev nD → XBuf Ideal) (ws : Dev nD → WBuf Ideal)

/-- A chunk computed at full width holds the product; -/
theorem gF_at (d c : Dev nD) (i : S1024x1024.Idx) (h : i ∈ FS c) : gF xs ws d c i = part (xs d) (ws d) i := by
  obtain ⟨x, rfl⟩ := under h
  unfold gF
  rw [put, pay3_at]
  refine sum_eq fun k => congrArg₂ (· * ·) (congrArg (xs d) ?_) (congrArg (ws d) ?_)
  · funext a; apply Fin.ext
    match a with
    | ⟨0, _⟩ => rfl
    | ⟨1, _⟩ => exact (show 0 + 1 * k.val = k.val by omega)
  · funext a; apply Fin.ext
    match a with
    | ⟨0, _⟩ => exact (show 0 + 1 * k.val = k.val by omega)
    | ⟨1, _⟩ => rfl
/-- so does half the columns of a chunk. -/
theorem gH_at (d c : Dev nD) (j : Fin 2) (i : S1024x1024.Idx) (h : i ∈ WS c j) : gH xs ws d c j i = part (xs d) (ws d) i := by
  obtain ⟨x, rfl⟩ := under h
  unfold gH
  rw [put, pay1_at]
  refine sum_eq fun k => congrArg₂ (· * ·) (congrArg (xs d) ?_) (congrArg (ws d) ?_)
  · funext a; apply Fin.ext
    match a with
    | ⟨0, _⟩ => rfl
    | ⟨1, _⟩ => exact (show 0 + 1 * k.val = k.val by omega)
  · funext a; apply Fin.ext
    match a with
    | ⟨0, _⟩ => exact (show 0 + 1 * k.val = k.val by omega)
    | ⟨1, _⟩ => rfl
/-- Device `d`'s partial product is its product, however it was computed. -/
theorem pG_at (d : Dev nD) (i : S1024x1024.Idx) : pG xs ws d i = part (xs d) (ws d) i := by
  have h0 := lt0 i
  have h1 := lt1 i
  unfold pG
  split
  · exact gF_at xs ws d _ i ((mem_full _ i).mpr (by dsimp only; omega))
  · exact gH_at xs ws d _ _ i ((mem_wide _ _ i).mpr (by dsimp only; omega))

/-! ## The sums -/

/-- The half of its chunk an element's row lies in. -/
abbrev rowH (i : S1024x1024.Idx) : Fin 2 := ⟨(i 0).val / 128 % 2, Nat.mod_lt _ (Nat.succ_pos 1)⟩

/-- A neighbour sends the half that is added to. -/
theorem sent_half (k : Fin 4) (b : Bool) (d : Dev nD) : nb (cw k) (nb (!b) d) = tgt k b d := by revert k b d; decide +kernel
/-- Both neighbours send the chunk that is finished. -/
theorem sent_chunk (k : Fin 4) (b : Bool) (d : Dev nD) : tgt k b (nb (!b) d) = own k d := by revert k b d; decide +kernel

/-- A chunk after the first sum: one half has the neighbour's product added. -/
theorem pS_at (k : Fin 4) (b : Bool) (d : Dev nD) (i : S1024x1024.Idx) (h : i ∈ CS (tgt k b d) k) :
    pS xs ws k b d i = (part (xs d) (ws d) i + if rowH i = hx k b then part (xs (nb (!b) d)) (ws (nb (!b) d)) i else 0 : EReal) := by
  have hm := (mem_chunk _ _ i).mp h
  have hi : i ∈ HS (tgt k b d) (rowH i) k := (mem_half _ _ _ i).mpr (by dsimp only; omega)
  split
  · rename_i hh
    rw [hh] at hi
    obtain ⟨x, rfl⟩ := under hi
    unfold pS
    rw [put]
    unfold k0_pay7 pA
    rw [slotA_read, recast]
    refine congrArg₂ (fun u v : EReal => u + v) (pG_at xs ws d _) (Eq.trans ?_ (pG_at xs ws (nb (!b) d) _))
    exact congrArg (fun c => pG xs ws (nb (!b) d) ((halfR c (hx k b) k).emb x)) (sent_half k b d)
  · rename_i hh
    rw [pS_off xs ws k b d _ _ hh i hi, pG_at, add_zero]

/-- GELU by its hyperbolic-tangent formula. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The last step applies GELU to a sum of three, at an element. -/
theorem pay18_at (u : Vec Ideal S256x256 .f32) (v w : Vec Ideal S1x1x256x256 .f32) (x : S256x256.Idx) :
    k0_pay18 u v w x = gelu ((u x : EReal) + shapeCast S256x256 v shapeCasts_S1x1x256x256_S256x256 x + shapeCast S256x256 w shapeCasts_S1x1x256x256_S256x256 x) := by
  unfold k0_pay18 gelu
  rw [recast]
  generalize shapeCast S256x256 v shapeCasts_S1x1x256x256_S256x256 = v'
  generalize shapeCast S256x256 w shapeCasts_S1x1x256x256_S256x256 = w'
  refine Eq.trans (b := (fun y : EReal => Ideal.ofBits .f32 0x3F000000#32 * y * (Ideal.ofBits .f32 0x3F800000#32
    + Ideal.tanh (Ideal.ofBits .f32 0x3F4C422A#32 * (y + Ideal.ofBits .f32 0x3D372713#32 * y * y * y)))) (u x + v' x + w' x)) rfl ?_
  dsimp only
  simp only [mul_assoc]

/-- What a neighbour's chunk is read as where it lands. -/
theorem landed (k : Fin 4) (b : Bool) (d : Dev nD) (x : S256x256.Idx) :
    shapeCast S256x256 (bM.view.readAt (Elt Ideal) (bR k (sl b)).toLoadRect (pB xs ws k b (nb (!b) d))) shapeCasts_S1x1x256x256_S256x256 x
      = pS xs ws k b (nb (!b) d) ((chunkR (own k d) k).emb x) := by
  unfold pB
  rw [slotB_read, chunk_read, sent_chunk]

/-- The chunk a device finishes. -/
theorem pY_at (k : Fin 4) (d : Dev nD) (i : S1024x1024.Idx) (h : i ∈ CS (own k d) k) :
    pY xs ws k d i = gelu ((part (xs d) (ws d) i + pS xs ws k false (nb true d) i : EReal) + pS xs ws k true (nb false d) i) := by
  obtain ⟨x, rfl⟩ := under h
  unfold pY
  rw [put, pay18_at]
  exact congrArg gelu (congrArg₂ (fun u v : EReal => u + v) (congrArg₂ (fun u v : EReal => u + v) (pG_at xs ws d _) (landed xs ws k false d x))
    (landed xs ws k true d x))

/-- A sum over the ring: a device, its two neighbours, and the device two steps away. -/
theorem ring_sum (p : Dev nD → EReal) (d : Dev nD) : p d + p (lf d) + p (rt d) + p (op d) = ∑ e, p e := by
  rw [Fin.sum_univ_four]
  fin_cases d
  · show p 0 + p 3 + p 1 + p 2 = _; abel
  · show p 1 + p 0 + p 2 + p 3 = _; abel
  · show p 2 + p 1 + p 3 + p 0 = _; abel
  · show p 3 + p 2 + p 0 + p 1 = _; abel

/-- The two halves of the far device's chunk come round by different ways. -/
theorem two_ways (k : Fin 4) (t : Fin 2) : (t = hx k false ∧ ¬ t = hx k true) ∨ (t = hx k true ∧ ¬ t = hx k false) := by revert k t; decide +kernel
theorem twice (d : Dev nD) (b : Bool) : nb b (nb b d) = op d := by revert b d; decide +kernel

theorem gathered (p : Dev nD → EReal) (k : Fin 4) (d : Dev nD) (t : Fin 2) :
    (p d + (p (nb true d) + if t = hx k false then p (nb true (nb true d)) else 0)) + (p (nb false d) + if t = hx k true then p (nb false (nb false d)) else 0)
      = ∑ e, p e := by
  rw [twice, twice, ← ring_sum p d]
  rcases two_ways k t with ⟨h, h'⟩ | ⟨h, h'⟩
  · rw [if_pos h, if_neg h', add_zero]
    show p d + (p (lf d) + p (op d)) + p (rt d) = _
    abel
  · rw [if_pos h, if_neg h', add_zero]
    show p d + p (lf d) + (p (rt d) + p (op d)) = _
    abel

/-- The result: GELU of the sum of the four products. -/
theorem pZ_at (i : S1024x1024.Idx) : pZ xs ws i = gelu (∑ e, part (xs e) (ws e) i) := by
  have h0 := lt0 i
  have h1 := lt1 i
  have ho : own (colC i) (nb (cw (colC i)) (rowC i)) = rowC i := by generalize colC i = k; generalize rowC i = c; revert k c; decide +kernel
  have hm : i ∈ CS (rowC i) (colC i) := (mem_chunk _ _ i).mpr (by dsimp only; omega)
  unfold pZ
  rw [pY_at _ _ _ _ _ (by rw [ho]; exact hm), pS_at _ _ _ _ _ _ (by rw [show tgt (colC i) false (nb true _) = _ from sent_chunk (colC i) false _, ho]; exact hm),
    pS_at _ _ _ _ _ _ (by rw [show tgt (colC i) true (nb false _) = _ from sent_chunk (colC i) true _, ho]; exact hm)]
  exact congrArg gelu (gathered (fun e => part (xs e) (ws e) i) _ _ _)

end Cert.Fused

end
-- ==== Proof.Result.lean ====
/- The devices' result is the reference's. -/
module

public import proofs.«01_k».proof.Defs
public import proofs.«01_k».proof.Proof.Frames
public import proofs.«01_k».proof.Proof.Value
public import proofs.«01_k».proof.Proof.Gen.ReferenceIdeal.Run
public import Idealize.ShloMosaic.Lib.Layout
public import Idealize.ShloMosaic.Lib.Pipeline.ValueKit

@[expose] public section

noncomputable section

namespace Cert.Fused

open Cert.KernelIdeal Cert.KernelIdeal.Gen
open Idealize.ShloMosaic Idealize.ShloMosaic.TcCoe Idealize.SL.Sem
open scoped BigOperators

/-! ## The arrays before and after the run -/

section Arrays
variable {F : FTy → Type} [FloatOps F] (m : (ℓ : Loc nD τ sig) → Buf (Elt F) ℓ)

/-- A device's first input is its whole array; -/
theorem xin_eq (c : Dev nD) : xin m c = m ((c : Thread nD τ).loc main_arg0) := by
  funext i
  refine congrArg (m ((c : Thread nD τ).loc main_arg0)) (?_ : (win0_0.blk t0_0).view.emb i = i)
  funext a; apply Fin.ext
  match a with
  | ⟨0, _⟩ => exact (show 0 + 1 * (i 0).val = (i 0).val by omega)
  | ⟨1, _⟩ => exact (show 0 + 1 * (i 1).val = (i 1).val by omega)
/-- so is its second. -/
theorem win_eq (c : Dev nD) : win m c = m ((c : Thread nD τ).loc main_arg1) := by
  funext i
  refine congrArg (m ((c : Thread nD τ).loc main_arg1)) (?_ : (win0_1.blk t0_0).view.emb i = i)
  funext a; apply Fin.ext
  match a with
  | ⟨0, _⟩ => exact (show 0 + 1 * (i 0).val = (i 0).val by omega)
  | ⟨1, _⟩ => exact (show 0 + 1 * (i 1).val = (i 1).val by omega)
/-- The result array ends holding what the body left in its staging buffer. -/
theorem whole_out (c : Dev nD) (dat : Pipeline.Dat τ (Elt F) Unit ℕ UU ℕ cfg0 c) (f : OBuf F) (h : dat.after (2 : Fin 3) t0_0 = f) :
    dat.arrAt (2 : Fin 3) cfg0.N = f :=
  dat.arrAt_eq_of_after_last (2 : Fin 3) t0_0 (by decide +kernel) f fun j => by rw [h]; rfl
/-- Every device's result array ends holding the computed result. -/
theorem final_o (c : Dev nD) : finalA m c (2 : Fin 3) = pZ (xin m) (win m) :=
  whole_out c (dats m 0 c) _ rfl

end Arrays

/-! ## The sum over the devices is the whole product -/

/-- The products of the blocks add up to the product. -/
theorem blocks_sum (X W : S1024x1024.Idx → EReal) (i : S1024x1024.Idx) :
    ∑ e : Dev nD, part (Layout.block ⟨2, ![1024, 256]⟩ ⟨2, ![1024, 1024]⟩ 1 4 e X) (Layout.block ⟨2, ![256, 1024]⟩ ⟨2, ![1024, 1024]⟩ 0 4 e W) i
      = ∑ k : Fin 1024, X (ValueIdx.ix2 (i 0) k) * W (ValueIdx.ix2 k (i 1)) := by
  rw [← Equiv.sum_comp (finProdFinEquiv (m := 4) (n := 256)) fun k => X (ValueIdx.ix2 (i 0) k) * W (ValueIdx.ix2 k (i 1)), Fintype.sum_prod_type]
  refine Finset.sum_congr rfl fun e _ => sum_eq fun k => congrArg₂ (· * ·) (congrArg X ?_) (congrArg W ?_)
  · funext a; apply Fin.ext
    match a with
    | ⟨0, _⟩ => rfl
    | ⟨1, _⟩ => exact (show e.val * 256 + k.val = k.val + 256 * e.val by omega)
  · funext a; apply Fin.ext
    match a with
    | ⟨0, _⟩ => exact (show e.val * 256 + k.val = k.val + 256 * e.val by omega)
    | ⟨1, _⟩ => rfl

/-! ## The reference -/

/-- The reference's value: GELU of the product. -/
def value (X W : S1024x1024.Idx → EReal) : S1024x1024.Idx → EReal := fun i => gelu (∑ k : Fin 1024, X (ValueIdx.ix2 (i 0) k) * W (ValueIdx.ix2 k (i 1)))

open Cert.ReferenceIdeal.Gen in
/-- The reference's product, at an element. -/
theorem product_at (X W : FVec Ideal ⟨2, ![1024, 1024]⟩ .f32) (i : S1024x1024.Idx) :
    Host.dotGeneral Cert.ReferenceIdeal.dot_S1024x1024_S1024x1024_S1024x1024_1_0_0_1_n_n none X W i
      = ∑ k : Fin 1024, (X (ValueIdx.ix2 (i 0) k) : EReal) * W (ValueIdx.ix2 k (i 1)) :=
  (congrArg _ (ValueIdx.eq_ix2 i)).trans ((Ideal.matmul_plain_apply none X W (fun _ => 0) (i 0) (i 1)).trans (zero_add _))

open Cert.ReferenceIdeal.Gen in
/-- The reference runs to the end with its value in its result and its arguments unchanged. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v13)
          = value (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  refine (θ_run (Cert.ReferenceIdeal.defs (F := Ideal)) _ _).mono (fun r h c => ⟨(h c).1.trans (funext fun i => ?_), (h c).2⟩) (Cert.ReferenceIdeal.Value.run (F := Ideal) m ρ)
  exact congrArg gelu (product_at _ _ i)

/-- The reference's arguments are unchanged and its semaphores, of which it has none, are at zero. -/
theorem frame_reference : Cert.quiescent_ReferenceIdeal := fun m ρ _ =>
  (θ_run (Cert.ReferenceIdeal.defs (F := Ideal)) _ _).mono (fun r h => ⟨fun c => (h c).2, Idealize.ShloMosaic.sem_eq_zero_of_no_sems (by decide) r.2⟩) (run_reference m ρ)

/-- From the same inputs, every device ends with the reference's value. -/
theorem equal : Cert.algebraic_KernelIdeal_ReferenceIdeal := by
  intro m ρ m' ρ' _ hin
  refine ⟨value _ _, (θ_run (Cert.KernelIdeal.defs (F := Ideal)) _ _).mono (fun r h c => ⟨(h.1 c (2 : Fin 3)).trans ((final_o m c).trans (funext fun i => ?_)),
      (h.1 c (0 : Fin 3)).trans (final_x m c), (h.1 c (1 : Fin 3)).trans (final_w m c)⟩) (run_main m ρ),
    (θ_run (Cert.ReferenceIdeal.defs (F := Ideal)) _ _).mono (fun r h => h 0) (run_reference m' ρ')⟩
  refine (pZ_at _ _ i).trans (congrArg gelu (Eq.trans ?_ (blocks_sum _ _ i)))
  refine Finset.sum_congr rfl fun e _ => ?_
  rw [xin_eq, win_eq]
  exact congrArg₂ (fun X W => part X W i) (hin e).1 (hin e).2

end Cert.Fused

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.Fused.frame_kernel, Cert.Fused.frame_ideal, Cert.Fused.frame_reference, trivial, Cert.Fused.equal⟩

end Cert.Proof

end
